-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v462) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S17 : Shape := ⟨1, ![17]⟩
abbrev S128x128 : Shape := ⟨2, ![128, 128]⟩
abbrev S128 : Shape := ⟨1, ![128]⟩
abbrev S128x8 : Shape := ⟨2, ![128, 8]⟩
abbrev S8 : Shape := ⟨1, ![8]⟩
abbrev S3 : Shape := ⟨1, ![3]⟩
abbrev S3x2 : Shape := ⟨2, ![3, 2]⟩
abbrev S2x3 : Shape := ⟨2, ![2, 3]⟩
abbrev S1 : Shape := ⟨1, ![1]⟩
abbrev S224x128 : Shape := ⟨2, ![224, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S2x3 : S_.BroadcastsInDim S2x3 (![] : Fin 0 → Fin S2x3.rank)
  reducesTo_S2x3_S_d0_1 : S2x3.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S8 .f32) (main_arg9 : FVec F S2x3 .f32) (main_arg12 : FVec F S1 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S2x3 .f32 := Host.absf main_arg9
  let main_cst_8 : FVec F S_ .f32 := constant S_ .f32 0x7F800000#32
  let main_v25 : FVec F S2x3 .f32 := broadcastInDim S2x3 ![] bcast_S_S2x3 main_cst_8
  let main_v26 : IVec S2x3 1 := cmpf .olt main_v24 main_v25
  let main_c_9 : IVec S_ 1 := constantI S_ 1 1#1
  let main_v27 : IVec S_ 1 := (fun x v => Host.reduce IntOp.andi x v reducesTo_S2x3_S_d0_1 h_S_) main_v26 main_c_9
  let main_v28 : IVec S_ 1 := andi main_v23 main_v27
  let main_v29 : FVec F S1 .f32 := Host.absf main_arg12
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S17 32) (main_arg3 : FVec F S128x128 .f32) (main_arg4 : FVec F S128 .f32) (main_arg5 : FVec F S128x8 .f32) (main_arg6 : FVec F S8 .f32) (main_arg7 : FVec F S3 .f32) (main_arg8 : FVec F S3x2 .f32) (main_arg9 : FVec F S2x3 .f32) (main_arg10 : FVec F S3 .f32) (main_arg11 : FVec F S3x2 .f32) (main_arg12 : FVec F S1 .f32) (main_arg13 : FVec F S224x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg5
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg6 main_arg9 main_arg12 main_v13 main_v16
-- ==== Kernel.lean ====
abbrev S50000x128 : Shape := ⟨2, ![50000, 128]⟩
abbrev S2x800000 : Shape := ⟨2, ![2, 800000]⟩
abbrev S17 : Shape := ⟨1, ![17]⟩
abbrev S128x128 : Shape := ⟨2, ![128, 128]⟩
abbrev S128 : Shape := ⟨1, ![128]⟩
abbrev S128x8 : Shape := ⟨2, ![128, 8]⟩
abbrev S8 : Shape := ⟨1, ![8]⟩
abbrev S3 : Shape := ⟨1, ![3]⟩
abbrev S3x2 : Shape := ⟨2, ![3, 2]⟩
abbrev S2x3 : Shape := ⟨2, ![2, 3]⟩
abbrev S1 : Shape := ⟨1, ![1]⟩
abbrev S224x128 : Shape := ⟨2, ![224, 128]⟩
abbrev S128x8x12 : Shape := ⟨3, ![128, 8, 12]⟩
abbrev S128x96 : Shape := ⟨2, ![128, 96]⟩
abbrev S_ : Shape := ⟨0, ![]⟩
abbrev S8x12 : Shape := ⟨2, ![8, 12]⟩
abbrev S96 : Shape := ⟨1, ![96]⟩
abbrev S1x128 : Shape := ⟨2, ![1, 128]⟩
abbrev S3x1 : Shape := ⟨2, ![3, 1]⟩
abbrev S12 : Shape := ⟨1, ![12]⟩
abbrev S1x12 : Shape := ⟨2, ![1, 12]⟩
abbrev S1x3 : Shape := ⟨2, ![1, 3]⟩
abbrev S8x128 : Shape := ⟨2, ![8, 128]⟩
abbrev S96x128 : Shape := ⟨2, ![96, 128]⟩
abbrev S5000x128 : Shape := ⟨2, ![5000, 128]⟩

abbrev nBuf : Space → Nat
  | .hbm => 243
  | .vmem => 12
  | .smem => 0
  | _ => 0

abbrev hbmTy0_0 (i : Nat) : BufTy := match i % 128 with
  | 0 => ⟨S50000x128, .f32⟩
  | 1 => ⟨S2x800000, .i32⟩
  | 2 => ⟨S17, .i32⟩
  | 3 => ⟨S128x128, .f32⟩
  | 4 => ⟨S128, .f32⟩
  | 5 => ⟨S128x8, .f32⟩
  | 6 => ⟨S8, .f32⟩
  | 7 => ⟨S3, .f32⟩
  | 8 => ⟨S3x2, .f32⟩
  | 9 => ⟨S2x3, .f32⟩
  | 10 => ⟨S3, .f32⟩
  | 11 => ⟨S3x2, .f32⟩
  | 12 => ⟨S1, .f32⟩
  | 13 => ⟨S224x128, .f32⟩
  | 14 => ⟨S128, .f32⟩
  | 15 => ⟨S128x8x12, .f32⟩
  | 16 => ⟨S128x96, .f32⟩
  | 17 => ⟨S_, .i32⟩
  | 18 => ⟨S_, .f32⟩
  | 19 => ⟨S128x128, .f32⟩
  | 20 => ⟨S8x12, .f32⟩
  | 21 => ⟨S96, .f32⟩
  | 22 => ⟨S_, .i32⟩
  | 23 => ⟨S_, .f32⟩
  | 24 => ⟨S128, .f32⟩
  | 25 => ⟨S1x128, .f32⟩
  | 26 => ⟨S_, .f32⟩
  | 27 => ⟨S3, .f32⟩
  | 28 => ⟨S3x1, .f32⟩
  | 29 => ⟨S3, .f32⟩
  | 30 => ⟨S3x1, .f32⟩
  | 31 => ⟨S3, .f32⟩
  | 32 => ⟨S3, .f32⟩
  | 33 => ⟨S_, .f32⟩
  | 34 => ⟨S3, .f32⟩
  | 35 => ⟨S3, .f32⟩
  | 36 => ⟨S3x1, .f32⟩
  | 37 => ⟨S3, .f32⟩
  | 38 => ⟨S3, .f32⟩
  | 39 => ⟨S3x1, .f32⟩
  | 40 => ⟨S3, .f32⟩
  | 41 => ⟨S3, .f32⟩
  | 42 => ⟨S3, .f32⟩
  | 43 => ⟨S_, .f32⟩
  | 44 => ⟨S3, .f32⟩
  | 45 => ⟨S3, .f32⟩
  | 46 => ⟨S_, .f32⟩
  | 47 => ⟨S3, .f32⟩
  | 48 => ⟨S_, .f32⟩
  | 49 => ⟨S12, .f32⟩
  | 50 => ⟨S_, .i32⟩
  | 51 => ⟨S1, .i32⟩
  | 52 => ⟨S12, .f32⟩
  | 53 => ⟨S_, .i32⟩
  | 54 => ⟨S1, .i32⟩
  | 55 => ⟨S12, .f32⟩
  | 56 => ⟨S_, .i32⟩
  | 57 => ⟨S1, .i32⟩
  | 58 => ⟨S12, .f32⟩
  | 59 => ⟨S_, .i32⟩
  | 60 => ⟨S1, .i32⟩
  | 61 => ⟨S12, .f32⟩
  | 62 => ⟨S1x12, .f32⟩
  | 63 => ⟨S8x12, .f32⟩
  | 64 => ⟨S96, .f32⟩
  | 65 => ⟨S_, .f32⟩
  | 66 => ⟨S_, .f32⟩
  | 67 => ⟨S128, .f32⟩
  | 68 => ⟨S_, .f32⟩
  | 69 => ⟨S12, .f32⟩
  | 70 => ⟨S_, .i32⟩
  | 71 => ⟨S1, .i32⟩
  | 72 => ⟨S12, .f32⟩
  | 73 => ⟨S_, .i32⟩
  | 74 => ⟨S1, .i32⟩
  | 75 => ⟨S12, .f32⟩
  | 76 => ⟨S_, .i32⟩
  | 77 => ⟨S1, .i32⟩
  | 78 => ⟨S12, .f32⟩
  | 79 => ⟨S_, .i32⟩
  | 80 => ⟨S1, .i32⟩
  | 81 => ⟨S12, .f32⟩
  | 82 => ⟨S1x12, .f32⟩
  | 83 => ⟨S8x12, .f32⟩
  | 84 => ⟨S96, .f32⟩
  | 85 => ⟨S_, .f32⟩
  | 86 => ⟨S_, .f32⟩
  | 87 => ⟨S128, .f32⟩
  | 88 => ⟨S_, .f32⟩
  | 89 => ⟨S3, .f32⟩
  | 90 => ⟨S_, .f32⟩
  | 91 => ⟨S3, .f32⟩
  | 92 => ⟨S_, .f32⟩
  | 93 => ⟨S3, .f32⟩
  | 94 => ⟨S_, .f32⟩
  | 95 => ⟨S12, .f32⟩
  | 96 => ⟨S_, .i32⟩
  | 97 => ⟨S1, .i32⟩
  | 98 => ⟨S12, .f32⟩
  | 99 => ⟨S_, .i32⟩
  | 100 => ⟨S1, .i32⟩
  | 101 => ⟨S12, .f32⟩
  | 102 => ⟨S_, .i32⟩
  | 103 => ⟨S1, .i32⟩
  | 104 => ⟨S12, .f32⟩
  | 105 => ⟨S_, .i32⟩
  | 106 => ⟨S1, .i32⟩
  | 107 => ⟨S12, .f32⟩
  | 108 => ⟨S1x12, .f32⟩
  | 109 => ⟨S8x12, .f32⟩
  | 110 => ⟨S96, .f32⟩
  | 111 => ⟨S_, .f32⟩
  | 112 => ⟨S_, .f32⟩
  | 113 => ⟨S128, .f32⟩
  | 114 => ⟨S1x3, .f32⟩
  | 115 => ⟨S3, .f32⟩
  | 116 => ⟨S1x3, .f32⟩
  | 117 => ⟨S3, .f32⟩
  | 118 => ⟨S3, .f32⟩
  | 119 => ⟨S_, .f32⟩
  | 120 => ⟨S12, .f32⟩
  | 121 => ⟨S_, .i32⟩
  | 122 => ⟨S1, .i32⟩
  | 123 => ⟨S12, .f32⟩
  | 124 => ⟨S_, .i32⟩
  | 125 => ⟨S1, .i32⟩
  | 126 => ⟨S12, .f32⟩
  | 127 => ⟨S_, .i32⟩
  | _ => ⟨S50000x128, .f32⟩

abbrev hbmTy0_1 (i : Nat) : BufTy := match i % 128 with
  | 0 => ⟨S1, .i32⟩
  | 1 => ⟨S12, .f32⟩
  | 2 => ⟨S_, .i32⟩
  | 3 => ⟨S1, .i32⟩
  | 4 => ⟨S12, .f32⟩
  | 5 => ⟨S1x12, .f32⟩
  | 6 => ⟨S8x12, .f32⟩
  | 7 => ⟨S96, .f32⟩
  | 8 => ⟨S_, .f32⟩
  | 9 => ⟨S_, .f32⟩
  | 10 => ⟨S128, .f32⟩
  | 11 => ⟨S_, .f32⟩
  | 12 => ⟨S12, .f32⟩
  | 13 => ⟨S_, .i32⟩
  | 14 => ⟨S1, .i32⟩
  | 15 => ⟨S12, .f32⟩
  | 16 => ⟨S_, .i32⟩
  | 17 => ⟨S1, .i32⟩
  | 18 => ⟨S12, .f32⟩
  | 19 => ⟨S_, .i32⟩
  | 20 => ⟨S1, .i32⟩
  | 21 => ⟨S12, .f32⟩
  | 22 => ⟨S_, .i32⟩
  | 23 => ⟨S1, .i32⟩
  | 24 => ⟨S12, .f32⟩
  | 25 => ⟨S1x12, .f32⟩
  | 26 => ⟨S8x12, .f32⟩
  | 27 => ⟨S96, .f32⟩
  | 28 => ⟨S_, .f32⟩
  | 29 => ⟨S_, .f32⟩
  | 30 => ⟨S128, .f32⟩
  | 31 => ⟨S3x1, .f32⟩
  | 32 => ⟨S3, .f32⟩
  | 33 => ⟨S_, .f32⟩
  | 34 => ⟨S12, .f32⟩
  | 35 => ⟨S_, .i32⟩
  | 36 => ⟨S1, .i32⟩
  | 37 => ⟨S12, .f32⟩
  | 38 => ⟨S_, .i32⟩
  | 39 => ⟨S1, .i32⟩
  | 40 => ⟨S12, .f32⟩
  | 41 => ⟨S_, .i32⟩
  | 42 => ⟨S1, .i32⟩
  | 43 => ⟨S12, .f32⟩
  | 44 => ⟨S_, .i32⟩
  | 45 => ⟨S1, .i32⟩
  | 46 => ⟨S12, .f32⟩
  | 47 => ⟨S1x12, .f32⟩
  | 48 => ⟨S8x12, .f32⟩
  | 49 => ⟨S96, .f32⟩
  | 50 => ⟨S_, .f32⟩
  | 51 => ⟨S_, .f32⟩
  | 52 => ⟨S128, .f32⟩
  | 53 => ⟨S3x1, .f32⟩
  | 54 => ⟨S3, .f32⟩
  | 55 => ⟨S_, .f32⟩
  | 56 => ⟨S12, .f32⟩
  | 57 => ⟨S_, .i32⟩
  | 58 => ⟨S1, .i32⟩
  | 59 => ⟨S12, .f32⟩
  | 60 => ⟨S_, .i32⟩
  | 61 => ⟨S1, .i32⟩
  | 62 => ⟨S12, .f32⟩
  | 63 => ⟨S_, .i32⟩
  | 64 => ⟨S1, .i32⟩
  | 65 => ⟨S12, .f32⟩
  | 66 => ⟨S_, .i32⟩
  | 67 => ⟨S1, .i32⟩
  | 68 => ⟨S12, .f32⟩
  | 69 => ⟨S1x12, .f32⟩
  | 70 => ⟨S8x12, .f32⟩
  | 71 => ⟨S96, .f32⟩
  | 72 => ⟨S_, .f32⟩
  | 73 => ⟨S_, .f32⟩
  | 74 => ⟨S128, .f32⟩
  | 75 => ⟨S_, .f32⟩
  | 76 => ⟨S_, .f32⟩
  | 77 => ⟨S3, .f32⟩
  | 78 => ⟨S_, .f32⟩
  | 79 => ⟨S12, .f32⟩
  | 80 => ⟨S_, .i32⟩
  | 81 => ⟨S1, .i32⟩
  | 82 => ⟨S12, .f32⟩
  | 83 => ⟨S_, .i32⟩
  | 84 => ⟨S1, .i32⟩
  | 85 => ⟨S12, .f32⟩
  | 86 => ⟨S_, .i32⟩
  | 87 => ⟨S1, .i32⟩
  | 88 => ⟨S12, .f32⟩
  | 89 => ⟨S_, .i32⟩
  | 90 => ⟨S1, .i32⟩
  | 91 => ⟨S12, .f32⟩
  | 92 => ⟨S1x12, .f32⟩
  | 93 => ⟨S8x12, .f32⟩
  | 94 => ⟨S96, .f32⟩
  | 95 => ⟨S_, .f32⟩
  | 96 => ⟨S_, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S8x128, .f32⟩
  | 107 => ⟨S128x128, .f32⟩
  | 108 => ⟨S96x128, .f32⟩
  | 109 => ⟨S_, .i32⟩
  | 110 => ⟨S_, .f32⟩
  | 111 => ⟨S128x128, .f32⟩
  | 112 => ⟨S1x128, .f32⟩
  | 113 => ⟨S1x128, .f32⟩
  | 114 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S8x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_c : Ref sig .tc := ⟨.hbm, 17, rfl⟩
abbrev main_call0_call0_v0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_call1_v0 : Ref sig .tc := ⟨.hbm, 23, rfl⟩
abbrev main_call0_v5 : Ref sig .tc := ⟨.hbm, 24, rfl⟩
abbrev main_call0_v6 : Ref sig .tc := ⟨.hbm, 25, rfl⟩
abbrev main_call0_cst : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_1 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_cst_2 : Ref sig .tc := ⟨.hbm, 43, rfl⟩
abbrev main_call0_v22 : Ref sig .tc := ⟨.hbm, 44, rfl⟩
abbrev main_call0_v23 : Ref sig .tc := ⟨.hbm, 45, rfl⟩
abbrev main_call0_cst_3 : Ref sig .tc := ⟨.hbm, 46, rfl⟩
abbrev main_call0_v24 : Ref sig .tc := ⟨.hbm, 47, rfl⟩
abbrev main_call0_cst_4 : Ref sig .tc := ⟨.hbm, 48, rfl⟩
abbrev main_call0_v25 : Ref sig .tc := ⟨.hbm, 49, rfl⟩
abbrev main_call0_c_5 : Ref sig .tc := ⟨.hbm, 50, rfl⟩
abbrev main_call0_v26 : Ref sig .tc := ⟨.hbm, 51, rfl⟩
abbrev main_call0_v27 : Ref sig .tc := ⟨.hbm, 52, rfl⟩
abbrev main_call0_c_6 : Ref sig .tc := ⟨.hbm, 53, rfl⟩
abbrev main_call0_v28 : Ref sig .tc := ⟨.hbm, 54, rfl⟩
abbrev main_call0_v29 : Ref sig .tc := ⟨.hbm, 55, rfl⟩
abbrev main_call0_c_7 : Ref sig .tc := ⟨.hbm, 56, rfl⟩
abbrev main_call0_v30 : Ref sig .tc := ⟨.hbm, 57, rfl⟩
abbrev main_call0_v31 : Ref sig .tc := ⟨.hbm, 58, rfl⟩
abbrev main_call0_c_8 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_v35 : Ref sig .tc := ⟨.hbm, 63, rfl⟩
abbrev main_call0_v36 : Ref sig .tc := ⟨.hbm, 64, rfl⟩
abbrev main_call0_cst_9 : Ref sig .tc := ⟨.hbm, 65, rfl⟩
abbrev main_call0_call2_v0 : Ref sig .tc := ⟨.hbm, 66, rfl⟩
abbrev main_call0_v37 : Ref sig .tc := ⟨.hbm, 67, rfl⟩
abbrev main_call0_cst_10 : Ref sig .tc := ⟨.hbm, 68, rfl⟩
abbrev main_call0_v38 : Ref sig .tc := ⟨.hbm, 69, rfl⟩
abbrev main_call0_c_11 : Ref sig .tc := ⟨.hbm, 70, rfl⟩
abbrev main_call0_v39 : Ref sig .tc := ⟨.hbm, 71, rfl⟩
abbrev main_call0_v40 : Ref sig .tc := ⟨.hbm, 72, rfl⟩
abbrev main_call0_c_12 : Ref sig .tc := ⟨.hbm, 73, rfl⟩
abbrev main_call0_v41 : Ref sig .tc := ⟨.hbm, 74, rfl⟩
abbrev main_call0_v42 : Ref sig .tc := ⟨.hbm, 75, rfl⟩
abbrev main_call0_c_13 : Ref sig .tc := ⟨.hbm, 76, rfl⟩
abbrev main_call0_v43 : Ref sig .tc := ⟨.hbm, 77, rfl⟩
abbrev main_call0_v44 : Ref sig .tc := ⟨.hbm, 78, rfl⟩
abbrev main_call0_c_14 : Ref sig .tc := ⟨.hbm, 79, rfl⟩
abbrev main_call0_v45 : Ref sig .tc := ⟨.hbm, 80, rfl⟩
abbrev main_call0_v46 : Ref sig .tc := ⟨.hbm, 81, rfl⟩
abbrev main_call0_v47 : Ref sig .tc := ⟨.hbm, 82, rfl⟩
abbrev main_call0_v48 : Ref sig .tc := ⟨.hbm, 83, rfl⟩
abbrev main_call0_v49 : Ref sig .tc := ⟨.hbm, 84, rfl⟩
abbrev main_call0_cst_15 : Ref sig .tc := ⟨.hbm, 85, rfl⟩
abbrev main_call0_call3_v0 : Ref sig .tc := ⟨.hbm, 86, rfl⟩
abbrev main_call0_v50 : Ref sig .tc := ⟨.hbm, 87, rfl⟩
abbrev main_call0_cst_16 : Ref sig .tc := ⟨.hbm, 88, rfl⟩
abbrev main_call0_v51 : Ref sig .tc := ⟨.hbm, 89, rfl⟩
abbrev main_call0_cst_17 : Ref sig .tc := ⟨.hbm, 90, rfl⟩
abbrev main_call0_v52 : Ref sig .tc := ⟨.hbm, 91, rfl⟩
abbrev main_call0_cst_18 : Ref sig .tc := ⟨.hbm, 92, rfl⟩
abbrev main_call0_v53 : Ref sig .tc := ⟨.hbm, 93, rfl⟩
abbrev main_call0_cst_19 : Ref sig .tc := ⟨.hbm, 94, rfl⟩
abbrev main_call0_v54 : Ref sig .tc := ⟨.hbm, 95, rfl⟩
abbrev main_call0_c_20 : Ref sig .tc := ⟨.hbm, 96, rfl⟩
abbrev main_call0_v55 : Ref sig .tc := ⟨.hbm, 97, rfl⟩
abbrev main_call0_v56 : Ref sig .tc := ⟨.hbm, 98, rfl⟩
abbrev main_call0_c_21 : Ref sig .tc := ⟨.hbm, 99, rfl⟩
abbrev main_call0_v57 : Ref sig .tc := ⟨.hbm, 100, rfl⟩
abbrev main_call0_v58 : Ref sig .tc := ⟨.hbm, 101, rfl⟩
abbrev main_call0_c_22 : Ref sig .tc := ⟨.hbm, 102, rfl⟩
abbrev main_call0_v59 : Ref sig .tc := ⟨.hbm, 103, rfl⟩
abbrev main_call0_v60 : Ref sig .tc := ⟨.hbm, 104, rfl⟩
abbrev main_call0_c_23 : Ref sig .tc := ⟨.hbm, 105, rfl⟩
abbrev main_call0_v61 : Ref sig .tc := ⟨.hbm, 106, rfl⟩
abbrev main_call0_v62 : Ref sig .tc := ⟨.hbm, 107, rfl⟩
abbrev main_call0_v63 : Ref sig .tc := ⟨.hbm, 108, rfl⟩
abbrev main_call0_v64 : Ref sig .tc := ⟨.hbm, 109, rfl⟩
abbrev main_call0_v65 : Ref sig .tc := ⟨.hbm, 110, rfl⟩
abbrev main_call0_cst_24 : Ref sig .tc := ⟨.hbm, 111, rfl⟩
abbrev main_call0_call4_v0 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_cst_25 : Ref sig .tc := ⟨.hbm, 119, rfl⟩
abbrev main_call0_v72 : Ref sig .tc := ⟨.hbm, 120, rfl⟩
abbrev main_call0_c_26 : Ref sig .tc := ⟨.hbm, 121, rfl⟩
abbrev main_call0_v73 : Ref sig .tc := ⟨.hbm, 122, rfl⟩
abbrev main_call0_v74 : Ref sig .tc := ⟨.hbm, 123, rfl⟩
abbrev main_call0_c_27 : Ref sig .tc := ⟨.hbm, 124, rfl⟩
abbrev main_call0_v75 : Ref sig .tc := ⟨.hbm, 125, rfl⟩
abbrev main_call0_v76 : Ref sig .tc := ⟨.hbm, 126, rfl⟩
abbrev main_call0_c_28 : Ref sig .tc := ⟨.hbm, 127, rfl⟩
abbrev main_call0_v77 : Ref sig .tc := ⟨.hbm, 128, rfl⟩
abbrev main_call0_v78 : Ref sig .tc := ⟨.hbm, 129, rfl⟩
abbrev main_call0_c_29 : Ref sig .tc := ⟨.hbm, 130, rfl⟩
abbrev main_call0_v79 : Ref sig .tc := ⟨.hbm, 131, rfl⟩
abbrev main_call0_v80 : Ref sig .tc := ⟨.hbm, 132, rfl⟩
abbrev main_call0_v81 : Ref sig .tc := ⟨.hbm, 133, rfl⟩
abbrev main_call0_v82 : Ref sig .tc := ⟨.hbm, 134, rfl⟩
abbrev main_call0_v83 : Ref sig .tc := ⟨.hbm, 135, rfl⟩
abbrev main_call0_cst_30 : Ref sig .tc := ⟨.hbm, 136, rfl⟩
abbrev main_call0_call5_v0 : Ref sig .tc := ⟨.hbm, 137, rfl⟩
abbrev main_call0_v84 : Ref sig .tc := ⟨.hbm, 138, rfl⟩
abbrev main_call0_cst_31 : Ref sig .tc := ⟨.hbm, 139, rfl⟩
abbrev main_call0_v85 : Ref sig .tc := ⟨.hbm, 140, rfl⟩
abbrev main_call0_c_32 : Ref sig .tc := ⟨.hbm, 141, rfl⟩
abbrev main_call0_v86 : Ref sig .tc := ⟨.hbm, 142, rfl⟩
abbrev main_call0_v87 : Ref sig .tc := ⟨.hbm, 143, rfl⟩
abbrev main_call0_c_33 : Ref sig .tc := ⟨.hbm, 144, rfl⟩
abbrev main_call0_v88 : Ref sig .tc := ⟨.hbm, 145, rfl⟩
abbrev main_call0_v89 : Ref sig .tc := ⟨.hbm, 146, rfl⟩
abbrev main_call0_c_34 : Ref sig .tc := ⟨.hbm, 147, rfl⟩
abbrev main_call0_v90 : Ref sig .tc := ⟨.hbm, 148, rfl⟩
abbrev main_call0_v91 : Ref sig .tc := ⟨.hbm, 149, rfl⟩
abbrev main_call0_c_35 : Ref sig .tc := ⟨.hbm, 150, rfl⟩
abbrev main_call0_v92 : Ref sig .tc := ⟨.hbm, 151, rfl⟩
abbrev main_call0_v93 : Ref sig .tc := ⟨.hbm, 152, rfl⟩
abbrev main_call0_v94 : Ref sig .tc := ⟨.hbm, 153, rfl⟩
abbrev main_call0_v95 : Ref sig .tc := ⟨.hbm, 154, rfl⟩
abbrev main_call0_v96 : Ref sig .tc := ⟨.hbm, 155, rfl⟩
abbrev main_call0_cst_36 : Ref sig .tc := ⟨.hbm, 156, rfl⟩
abbrev main_call0_call6_v0 : Ref sig .tc := ⟨.hbm, 157, rfl⟩
abbrev main_call0_v97 : Ref sig .tc := ⟨.hbm, 158, rfl⟩
abbrev main_call0_v98 : Ref sig .tc := ⟨.hbm, 159, rfl⟩
abbrev main_call0_v99 : Ref sig .tc := ⟨.hbm, 160, rfl⟩
abbrev main_call0_cst_37 : Ref sig .tc := ⟨.hbm, 161, rfl⟩
abbrev main_call0_v100 : Ref sig .tc := ⟨.hbm, 162, rfl⟩
abbrev main_call0_c_38 : Ref sig .tc := ⟨.hbm, 163, rfl⟩
abbrev main_call0_v101 : Ref sig .tc := ⟨.hbm, 164, rfl⟩
abbrev main_call0_v102 : Ref sig .tc := ⟨.hbm, 165, rfl⟩
abbrev main_call0_c_39 : Ref sig .tc := ⟨.hbm, 166, rfl⟩
abbrev main_call0_v103 : Ref sig .tc := ⟨.hbm, 167, rfl⟩
abbrev main_call0_v104 : Ref sig .tc := ⟨.hbm, 168, rfl⟩
abbrev main_call0_c_40 : Ref sig .tc := ⟨.hbm, 169, rfl⟩
abbrev main_call0_v105 : Ref sig .tc := ⟨.hbm, 170, rfl⟩
abbrev main_call0_v106 : Ref sig .tc := ⟨.hbm, 171, rfl⟩
abbrev main_call0_c_41 : Ref sig .tc := ⟨.hbm, 172, rfl⟩
abbrev main_call0_v107 : Ref sig .tc := ⟨.hbm, 173, rfl⟩
abbrev main_call0_v108 : Ref sig .tc := ⟨.hbm, 174, rfl⟩
abbrev main_call0_v109 : Ref sig .tc := ⟨.hbm, 175, rfl⟩
abbrev main_call0_v110 : Ref sig .tc := ⟨.hbm, 176, rfl⟩
abbrev main_call0_v111 : Ref sig .tc := ⟨.hbm, 177, rfl⟩
abbrev main_call0_cst_42 : Ref sig .tc := ⟨.hbm, 178, rfl⟩
abbrev main_call0_call7_v0 : Ref sig .tc := ⟨.hbm, 179, rfl⟩
abbrev main_call0_v112 : Ref sig .tc := ⟨.hbm, 180, rfl⟩
abbrev main_call0_v113 : Ref sig .tc := ⟨.hbm, 181, rfl⟩
abbrev main_call0_v114 : Ref sig .tc := ⟨.hbm, 182, rfl⟩
abbrev main_call0_cst_43 : Ref sig .tc := ⟨.hbm, 183, rfl⟩
abbrev main_call0_v115 : Ref sig .tc := ⟨.hbm, 184, rfl⟩
abbrev main_call0_c_44 : Ref sig .tc := ⟨.hbm, 185, rfl⟩
abbrev main_call0_v116 : Ref sig .tc := ⟨.hbm, 186, rfl⟩
abbrev main_call0_v117 : Ref sig .tc := ⟨.hbm, 187, rfl⟩
abbrev main_call0_c_45 : Ref sig .tc := ⟨.hbm, 188, rfl⟩
abbrev main_call0_v118 : Ref sig .tc := ⟨.hbm, 189, rfl⟩
abbrev main_call0_v119 : Ref sig .tc := ⟨.hbm, 190, rfl⟩
abbrev main_call0_c_46 : Ref sig .tc := ⟨.hbm, 191, rfl⟩
abbrev main_call0_v120 : Ref sig .tc := ⟨.hbm, 192, rfl⟩
abbrev main_call0_v121 : Ref sig .tc := ⟨.hbm, 193, rfl⟩
abbrev main_call0_c_47 : Ref sig .tc := ⟨.hbm, 194, rfl⟩
abbrev main_call0_v122 : Ref sig .tc := ⟨.hbm, 195, rfl⟩
abbrev main_call0_v123 : Ref sig .tc := ⟨.hbm, 196, rfl⟩
abbrev main_call0_v124 : Ref sig .tc := ⟨.hbm, 197, rfl⟩
abbrev main_call0_v125 : Ref sig .tc := ⟨.hbm, 198, rfl⟩
abbrev main_call0_v126 : Ref sig .tc := ⟨.hbm, 199, rfl⟩
abbrev main_call0_cst_48 : Ref sig .tc := ⟨.hbm, 200, rfl⟩
abbrev main_call0_call8_v0 : Ref sig .tc := ⟨.hbm, 201, rfl⟩
abbrev main_call0_v127 : Ref sig .tc := ⟨.hbm, 202, rfl⟩
abbrev main_call0_v128 : Ref sig .tc := ⟨.hbm, 203, rfl⟩
abbrev main_call0_v129 : Ref sig .tc := ⟨.hbm, 204, rfl⟩
abbrev main_call0_v130 : Ref sig .tc := ⟨.hbm, 205, rfl⟩
abbrev main_call0_cst_49 : Ref sig .tc := ⟨.hbm, 206, rfl⟩
abbrev main_call0_v131 : Ref sig .tc := ⟨.hbm, 207, rfl⟩
abbrev main_call0_c_50 : Ref sig .tc := ⟨.hbm, 208, rfl⟩
abbrev main_call0_v132 : Ref sig .tc := ⟨.hbm, 209, rfl⟩
abbrev main_call0_v133 : Ref sig .tc := ⟨.hbm, 210, rfl⟩
abbrev main_call0_c_51 : Ref sig .tc := ⟨.hbm, 211, rfl⟩
abbrev main_call0_v134 : Ref sig .tc := ⟨.hbm, 212, rfl⟩
abbrev main_call0_v135 : Ref sig .tc := ⟨.hbm, 213, rfl⟩
abbrev main_call0_c_52 : Ref sig .tc := ⟨.hbm, 214, rfl⟩
abbrev main_call0_v136 : Ref sig .tc := ⟨.hbm, 215, rfl⟩
abbrev main_call0_v137 : Ref sig .tc := ⟨.hbm, 216, rfl⟩
abbrev main_call0_c_53 : Ref sig .tc := ⟨.hbm, 217, rfl⟩
abbrev main_call0_v138 : Ref sig .tc := ⟨.hbm, 218, rfl⟩
abbrev main_call0_v139 : Ref sig .tc := ⟨.hbm, 219, rfl⟩
abbrev main_call0_v140 : Ref sig .tc := ⟨.hbm, 220, rfl⟩
abbrev main_call0_v141 : Ref sig .tc := ⟨.hbm, 221, rfl⟩
abbrev main_call0_v142 : Ref sig .tc := ⟨.hbm, 222, rfl⟩
abbrev main_call0_cst_54 : Ref sig .tc := ⟨.hbm, 223, rfl⟩
abbrev main_call0_call9_v0 : Ref sig .tc := ⟨.hbm, 224, rfl⟩
abbrev main_call0_v143 : Ref sig .tc := ⟨.hbm, 225, rfl⟩
abbrev main_call0_v144 : Ref sig .tc := ⟨.hbm, 226, rfl⟩
abbrev main_call0_v145 : Ref sig .tc := ⟨.hbm, 227, rfl⟩
abbrev main_call0_v146 : Ref sig .tc := ⟨.hbm, 228, rfl⟩
abbrev main_call0_v147 : Ref sig .tc := ⟨.hbm, 229, rfl⟩
abbrev main_call0_v148 : Ref sig .tc := ⟨.hbm, 230, rfl⟩
abbrev main_call0_v149 : Ref sig .tc := ⟨.hbm, 231, rfl⟩
abbrev main_call0_v150 : Ref sig .tc := ⟨.hbm, 232, rfl⟩
abbrev main_call0_v151 : Ref sig .tc := ⟨.hbm, 233, rfl⟩
abbrev main_call0_v152 : Ref sig .tc := ⟨.hbm, 234, rfl⟩
abbrev main_call0_v153 : Ref sig .tc := ⟨.hbm, 235, rfl⟩
abbrev main_call0_v154 : Ref sig .tc := ⟨.hbm, 236, rfl⟩
abbrev main_call0_c_55 : Ref sig .tc := ⟨.hbm, 237, rfl⟩
abbrev main_call0_call10_v0 : Ref sig .tc := ⟨.hbm, 238, rfl⟩
abbrev main_call0_v155 : Ref sig .tc := ⟨.hbm, 239, rfl⟩
abbrev main_call0_v156 : Ref sig .tc := ⟨.hbm, 240, rfl⟩
abbrev main_call0_v157 : Ref sig .tc := ⟨.hbm, 241, rfl⟩
abbrev main_v0 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S50000x128 : Shape := ⟨2, ![50000, 128]⟩
abbrev S2x800000 : Shape := ⟨2, ![2, 800000]⟩
abbrev S17 : Shape := ⟨1, ![17]⟩
abbrev S128x128 : Shape := ⟨2, ![128, 128]⟩
abbrev S128 : Shape := ⟨1, ![128]⟩
abbrev S128x8 : Shape := ⟨2, ![128, 8]⟩
abbrev S8 : Shape := ⟨1, ![8]⟩
abbrev S3 : Shape := ⟨1, ![3]⟩
abbrev S3x2 : Shape := ⟨2, ![3, 2]⟩
abbrev S2x3 : Shape := ⟨2, ![2, 3]⟩
abbrev S1 : Shape := ⟨1, ![1]⟩
abbrev S224x128 : Shape := ⟨2, ![224, 128]⟩
abbrev S1x128 : Shape := ⟨2, ![1, 128]⟩
abbrev S_ : Shape := ⟨0, ![]⟩
abbrev S50000x8 : Shape := ⟨2, ![50000, 8]⟩
abbrev S1x8 : Shape := ⟨2, ![1, 8]⟩
abbrev S1x800000 : Shape := ⟨2, ![1, 800000]⟩
abbrev S800000 : Shape := ⟨1, ![800000]⟩
abbrev S800000x1 : Shape := ⟨2, ![800000, 1]⟩
abbrev S800000x8 : Shape := ⟨2, ![800000, 8]⟩
abbrev S50000x8x1 : Shape := ⟨3, ![50000, 8, 1]⟩
abbrev S50000x8x2 : Shape := ⟨3, ![50000, 8, 2]⟩
abbrev S8x50000x2 : Shape := ⟨3, ![8, 50000, 2]⟩
abbrev S1x50000x2 : Shape := ⟨3, ![1, 50000, 2]⟩
abbrev S50000x2 : Shape := ⟨2, ![50000, 2]⟩
abbrev S50000x1 : Shape := ⟨2, ![50000, 1]⟩
abbrev S50000 : Shape := ⟨1, ![50000]⟩
abbrev S1x3 : Shape := ⟨2, ![1, 3]⟩
abbrev S50000x3 : Shape := ⟨2, ![50000, 3]⟩
abbrev S50000x1x2 : Shape := ⟨3, ![50000, 1, 2]⟩
abbrev S1x3x2 : Shape := ⟨3, ![1, 3, 2]⟩
abbrev S50000x3x2 : Shape := ⟨3, ![50000, 3, 2]⟩
abbrev S1x1 : Shape := ⟨2, ![1, 1]⟩
abbrev S50000x12 : Shape := ⟨2, ![50000, 12]⟩
abbrev S50000x96 : Shape := ⟨2, ![50000, 96]⟩
abbrev S50000x224 : Shape := ⟨2, ![50000, 224]⟩

abbrev nBuf : Space → Nat
  | .hbm => 557
  | .vmem => 0
  | .smem => 0
  | _ => 0

abbrev hbmTy0_0 (i : Nat) : BufTy := match i % 128 with
  | 0 => ⟨S50000x128, .f32⟩
  | 1 => ⟨S2x800000, .i32⟩
  | 2 => ⟨S17, .i32⟩
  | 3 => ⟨S128x128, .f32⟩
  | 4 => ⟨S128, .f32⟩
  | 5 => ⟨S128x8, .f32⟩
  | 6 => ⟨S8, .f32⟩
  | 7 => ⟨S3, .f32⟩
  | 8 => ⟨S3x2, .f32⟩
  | 9 => ⟨S2x3, .f32⟩
  | 10 => ⟨S3, .f32⟩
  | 11 => ⟨S3x2, .f32⟩
  | 12 => ⟨S1, .f32⟩
  | 13 => ⟨S224x128, .f32⟩
  | 14 => ⟨S128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x8, .f32⟩
  | 23 => ⟨S1x8, .f32⟩
  | 24 => ⟨S50000x8, .f32⟩
  | 25 => ⟨S50000x8, .f32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x8, .f32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x8, .f32⟩
  | 48 => ⟨S800000x8, .f32⟩
  | 49 => ⟨S50000x8x1, .f32⟩
  | 50 => ⟨S50000x8x2, .f32⟩
  | 51 => ⟨S8x50000x2, .f32⟩
  | 52 => ⟨S1x50000x2, .f32⟩
  | 53 => ⟨S50000x2, .f32⟩
  | 54 => ⟨S50000x1, .f32⟩
  | 55 => ⟨S50000, .f32⟩
  | 56 => ⟨S50000x1, .f32⟩
  | 57 => ⟨S50000x1, .f32⟩
  | 58 => ⟨S50000, .f32⟩
  | 59 => ⟨S50000x1, .f32⟩
  | 60 => ⟨S1x3, .f32⟩
  | 61 => ⟨S50000x3, .f32⟩
  | 62 => ⟨S50000x3, .f32⟩
  | 63 => ⟨S50000x3, .f32⟩
  | 64 => ⟨S50000x3, .f32⟩
  | 65 => ⟨S50000x3, .f32⟩
  | 66 => ⟨S50000x3, .f32⟩
  | 67 => ⟨S_, .f32⟩
  | 68 => ⟨S50000x3, .f32⟩
  | 69 => ⟨S50000x3, .f32⟩
  | 70 => ⟨S50000x1x2, .f32⟩
  | 71 => ⟨S1x3x2, .f32⟩
  | 72 => ⟨S50000x3x2, .f32⟩
  | 73 => ⟨S50000x3x2, .f32⟩
  | 74 => ⟨S50000x3x2, .f32⟩
  | 75 => ⟨S50000x3x2, .f32⟩
  | 76 => ⟨S_, .f32⟩
  | 77 => ⟨S50000x3, .f32⟩
  | 78 => ⟨S50000x3, .f32⟩
  | 79 => ⟨S_, .f32⟩
  | 80 => ⟨S50000x3, .f32⟩
  | 81 => ⟨S50000x3, .f32⟩
  | 82 => ⟨S50000x3, .f32⟩
  | 83 => ⟨S50000x3, .f32⟩
  | 84 => ⟨S1x3, .f32⟩
  | 85 => ⟨S50000x3, .f32⟩
  | 86 => ⟨S50000x3, .f32⟩
  | 87 => ⟨S50000x1x2, .f32⟩
  | 88 => ⟨S1x3x2, .f32⟩
  | 89 => ⟨S50000x3x2, .f32⟩
  | 90 => ⟨S50000x3x2, .f32⟩
  | 91 => ⟨S50000x3x2, .f32⟩
  | 92 => ⟨S50000x3x2, .f32⟩
  | 93 => ⟨S_, .f32⟩
  | 94 => ⟨S50000x3, .f32⟩
  | 95 => ⟨S_, .f32⟩
  | 96 => ⟨S50000x3, .f32⟩
  | 97 => ⟨S50000x3, .f32⟩
  | 98 => ⟨S_, .f32⟩
  | 99 => ⟨S50000x3, .f32⟩
  | 100 => ⟨S50000x3, .f32⟩
  | 101 => ⟨S1, .f32⟩
  | 102 => ⟨S1x1, .f32⟩
  | 103 => ⟨S50000x3, .f32⟩
  | 104 => ⟨S50000x3, .f32⟩
  | 105 => ⟨S50000x3, .f32⟩
  | 106 => ⟨S_, .f32⟩
  | 107 => ⟨S50000x3, .f32⟩
  | 108 => ⟨S50000x3, .f32⟩
  | 109 => ⟨S_, .f32⟩
  | 110 => ⟨S50000x3, .f32⟩
  | 111 => ⟨S50000x3, .f32⟩
  | 112 => ⟨S50000x3, .f32⟩
  | 113 => ⟨S50000x12, .f32⟩
  | 114 => ⟨S1x50000x2, .f32⟩
  | 115 => ⟨S50000x2, .f32⟩
  | 116 => ⟨S50000x1, .f32⟩
  | 117 => ⟨S50000, .f32⟩
  | 118 => ⟨S50000x1, .f32⟩
  | 119 => ⟨S50000x1, .f32⟩
  | 120 => ⟨S50000, .f32⟩
  | 121 => ⟨S50000x1, .f32⟩
  | 122 => ⟨S1x3, .f32⟩
  | 123 => ⟨S50000x3, .f32⟩
  | 124 => ⟨S50000x3, .f32⟩
  | 125 => ⟨S50000x3, .f32⟩
  | 126 => ⟨S50000x3, .f32⟩
  | 127 => ⟨S50000x3, .f32⟩
  | _ => ⟨S50000x128, .f32⟩

abbrev hbmTy0_1 (i : Nat) : BufTy := match i % 128 with
  | 0 => ⟨S50000x3, .f32⟩
  | 1 => ⟨S_, .f32⟩
  | 2 => ⟨S50000x3, .f32⟩
  | 3 => ⟨S50000x3, .f32⟩
  | 4 => ⟨S50000x1x2, .f32⟩
  | 5 => ⟨S1x3x2, .f32⟩
  | 6 => ⟨S50000x3x2, .f32⟩
  | 7 => ⟨S50000x3x2, .f32⟩
  | 8 => ⟨S50000x3x2, .f32⟩
  | 9 => ⟨S50000x3x2, .f32⟩
  | 10 => ⟨S_, .f32⟩
  | 11 => ⟨S50000x3, .f32⟩
  | 12 => ⟨S50000x3, .f32⟩
  | 13 => ⟨S_, .f32⟩
  | 14 => ⟨S50000x3, .f32⟩
  | 15 => ⟨S50000x3, .f32⟩
  | 16 => ⟨S50000x3, .f32⟩
  | 17 => ⟨S50000x3, .f32⟩
  | 18 => ⟨S1x3, .f32⟩
  | 19 => ⟨S50000x3, .f32⟩
  | 20 => ⟨S50000x3, .f32⟩
  | 21 => ⟨S50000x1x2, .f32⟩
  | 22 => ⟨S1x3x2, .f32⟩
  | 23 => ⟨S50000x3x2, .f32⟩
  | 24 => ⟨S50000x3x2, .f32⟩
  | 25 => ⟨S50000x3x2, .f32⟩
  | 26 => ⟨S50000x3x2, .f32⟩
  | 27 => ⟨S_, .f32⟩
  | 28 => ⟨S50000x3, .f32⟩
  | 29 => ⟨S_, .f32⟩
  | 30 => ⟨S50000x3, .f32⟩
  | 31 => ⟨S50000x3, .f32⟩
  | 32 => ⟨S_, .f32⟩
  | 33 => ⟨S50000x3, .f32⟩
  | 34 => ⟨S50000x3, .f32⟩
  | 35 => ⟨S1, .f32⟩
  | 36 => ⟨S1x1, .f32⟩
  | 37 => ⟨S50000x3, .f32⟩
  | 38 => ⟨S50000x3, .f32⟩
  | 39 => ⟨S50000x3, .f32⟩
  | 40 => ⟨S_, .f32⟩
  | 41 => ⟨S50000x3, .f32⟩
  | 42 => ⟨S50000x3, .f32⟩
  | 43 => ⟨S_, .f32⟩
  | 44 => ⟨S50000x3, .f32⟩
  | 45 => ⟨S50000x3, .f32⟩
  | 46 => ⟨S50000x3, .f32⟩
  | 47 => ⟨S50000x12, .f32⟩
  | 48 => ⟨S1x50000x2, .f32⟩
  | 49 => ⟨S50000x2, .f32⟩
  | 50 => ⟨S50000x1, .f32⟩
  | 51 => ⟨S50000, .f32⟩
  | 52 => ⟨S50000x1, .f32⟩
  | 53 => ⟨S50000x1, .f32⟩
  | 54 => ⟨S50000, .f32⟩
  | 55 => ⟨S50000x1, .f32⟩
  | 56 => ⟨S1x3, .f32⟩
  | 57 => ⟨S50000x3, .f32⟩
  | 58 => ⟨S50000x3, .f32⟩
  | 59 => ⟨S50000x3, .f32⟩
  | 60 => ⟨S50000x3, .f32⟩
  | 61 => ⟨S50000x3, .f32⟩
  | 62 => ⟨S50000x3, .f32⟩
  | 63 => ⟨S_, .f32⟩
  | 64 => ⟨S50000x3, .f32⟩
  | 65 => ⟨S50000x3, .f32⟩
  | 66 => ⟨S50000x1x2, .f32⟩
  | 67 => ⟨S1x3x2, .f32⟩
  | 68 => ⟨S50000x3x2, .f32⟩
  | 69 => ⟨S50000x3x2, .f32⟩
  | 70 => ⟨S50000x3x2, .f32⟩
  | 71 => ⟨S50000x3x2, .f32⟩
  | 72 => ⟨S_, .f32⟩
  | 73 => ⟨S50000x3, .f32⟩
  | 74 => ⟨S50000x3, .f32⟩
  | 75 => ⟨S_, .f32⟩
  | 76 => ⟨S50000x3, .f32⟩
  | 77 => ⟨S50000x3, .f32⟩
  | 78 => ⟨S50000x3, .f32⟩
  | 79 => ⟨S50000x3, .f32⟩
  | 80 => ⟨S1x3, .f32⟩
  | 81 => ⟨S50000x3, .f32⟩
  | 82 => ⟨S50000x3, .f32⟩
  | 83 => ⟨S50000x1x2, .f32⟩
  | 84 => ⟨S1x3x2, .f32⟩
  | 85 => ⟨S50000x3x2, .f32⟩
  | 86 => ⟨S50000x3x2, .f32⟩
  | 87 => ⟨S50000x3x2, .f32⟩
  | 88 => ⟨S50000x3x2, .f32⟩
  | 89 => ⟨S_, .f32⟩
  | 90 => ⟨S50000x3, .f32⟩
  | 91 => ⟨S_, .f32⟩
  | 92 => ⟨S50000x3, .f32⟩
  | 93 => ⟨S50000x3, .f32⟩
  | 94 => ⟨S_, .f32⟩
  | 95 => ⟨S50000x3, .f32⟩
  | 96 => ⟨S50000x3, .f32⟩
  | 97 => ⟨S1, .f32⟩
  | 98 => ⟨S1x1, .f32⟩
  | 99 => ⟨S50000x3, .f32⟩
  | 100 => ⟨S50000x3, .f32⟩
  | 101 => ⟨S50000x3, .f32⟩
  | 102 => ⟨S_, .f32⟩
  | 103 => ⟨S50000x3, .f32⟩
  | 104 => ⟨S50000x3, .f32⟩
  | 105 => ⟨S_, .f32⟩
  | 106 => ⟨S50000x3, .f32⟩
  | 107 => ⟨S50000x3, .f32⟩
  | 108 => ⟨S50000x3, .f32⟩
  | 109 => ⟨S50000x12, .f32⟩
  | 110 => ⟨S1x50000x2, .f32⟩
  | 111 => ⟨S50000x2, .f32⟩
  | 112 => ⟨S50000x1, .f32⟩
  | 113 => ⟨S50000, .f32⟩
  | 114 => ⟨S50000x1, .f32⟩
  | 115 => ⟨S50000x1, .f32⟩
  | 116 => ⟨S50000, .f32⟩
  | 117 => ⟨S50000x1, .f32⟩
  | 118 => ⟨S1x3, .f32⟩
  | 119 => ⟨S50000x3, .f32⟩
  | 120 => ⟨S50000x3, .f32⟩
  | 121 => ⟨S50000x3, .f32⟩
  | 122 => ⟨S50000x3, .f32⟩
  | 123 => ⟨S50000x3, .f32⟩
  | 124 => ⟨S50000x3, .f32⟩
  | 125 => ⟨S_, .f32⟩
  | 126 => ⟨S50000x3, .f32⟩
  | 127 => ⟨S50000x3, .f32⟩
  | _ => ⟨S50000x128, .f32⟩

abbrev hbmTy0_2 (i : Nat) : BufTy := match i % 128 with
  | 0 => ⟨S50000x1x2, .f32⟩
  | 1 => ⟨S1x3x2, .f32⟩
  | 2 => ⟨S50000x3x2, .f32⟩
  | 3 => ⟨S50000x3x2, .f32⟩
  | 4 => ⟨S50000x3x2, .f32⟩
  | 5 => ⟨S50000x3x2, .f32⟩
  | 6 => ⟨S_, .f32⟩
  | 7 => ⟨S50000x3, .f32⟩
  | 8 => ⟨S50000x3, .f32⟩
  | 9 => ⟨S_, .f32⟩
  | 10 => ⟨S50000x3, .f32⟩
  | 11 => ⟨S50000x3, .f32⟩
  | 12 => ⟨S50000x3, .f32⟩
  | 13 => ⟨S50000x3, .f32⟩
  | 14 => ⟨S1x3, .f32⟩
  | 15 => ⟨S50000x3, .f32⟩
  | 16 => ⟨S50000x3, .f32⟩
  | 17 => ⟨S50000x1x2, .f32⟩
  | 18 => ⟨S1x3x2, .f32⟩
  | 19 => ⟨S50000x3x2, .f32⟩
  | 20 => ⟨S50000x3x2, .f32⟩
  | 21 => ⟨S50000x3x2, .f32⟩
  | 22 => ⟨S50000x3x2, .f32⟩
  | 23 => ⟨S_, .f32⟩
  | 24 => ⟨S50000x3, .f32⟩
  | 25 => ⟨S_, .f32⟩
  | 26 => ⟨S50000x3, .f32⟩
  | 27 => ⟨S50000x3, .f32⟩
  | 28 => ⟨S_, .f32⟩
  | 29 => ⟨S50000x3, .f32⟩
  | 30 => ⟨S50000x3, .f32⟩
  | 31 => ⟨S1, .f32⟩
  | 32 => ⟨S1x1, .f32⟩
  | 33 => ⟨S50000x3, .f32⟩
  | 34 => ⟨S50000x3, .f32⟩
  | 35 => ⟨S50000x3, .f32⟩
  | 36 => ⟨S_, .f32⟩
  | 37 => ⟨S50000x3, .f32⟩
  | 38 => ⟨S50000x3, .f32⟩
  | 39 => ⟨S_, .f32⟩
  | 40 => ⟨S50000x3, .f32⟩
  | 41 => ⟨S50000x3, .f32⟩
  | 42 => ⟨S50000x3, .f32⟩
  | 43 => ⟨S50000x12, .f32⟩
  | 44 => ⟨S1x50000x2, .f32⟩
  | 45 => ⟨S50000x2, .f32⟩
  | 46 => ⟨S50000x1, .f32⟩
  | 47 => ⟨S50000, .f32⟩
  | 48 => ⟨S50000x1, .f32⟩
  | 49 => ⟨S50000x1, .f32⟩
  | 50 => ⟨S50000, .f32⟩
  | 51 => ⟨S50000x1, .f32⟩
  | 52 => ⟨S1x3, .f32⟩
  | 53 => ⟨S50000x3, .f32⟩
  | 54 => ⟨S50000x3, .f32⟩
  | 55 => ⟨S50000x3, .f32⟩
  | 56 => ⟨S50000x3, .f32⟩
  | 57 => ⟨S50000x3, .f32⟩
  | 58 => ⟨S50000x3, .f32⟩
  | 59 => ⟨S_, .f32⟩
  | 60 => ⟨S50000x3, .f32⟩
  | 61 => ⟨S50000x3, .f32⟩
  | 62 => ⟨S50000x1x2, .f32⟩
  | 63 => ⟨S1x3x2, .f32⟩
  | 64 => ⟨S50000x3x2, .f32⟩
  | 65 => ⟨S50000x3x2, .f32⟩
  | 66 => ⟨S50000x3x2, .f32⟩
  | 67 => ⟨S50000x3x2, .f32⟩
  | 68 => ⟨S_, .f32⟩
  | 69 => ⟨S50000x3, .f32⟩
  | 70 => ⟨S50000x3, .f32⟩
  | 71 => ⟨S_, .f32⟩
  | 72 => ⟨S50000x3, .f32⟩
  | 73 => ⟨S50000x3, .f32⟩
  | 74 => ⟨S50000x3, .f32⟩
  | 75 => ⟨S50000x3, .f32⟩
  | 76 => ⟨S1x3, .f32⟩
  | 77 => ⟨S50000x3, .f32⟩
  | 78 => ⟨S50000x3, .f32⟩
  | 79 => ⟨S50000x1x2, .f32⟩
  | 80 => ⟨S1x3x2, .f32⟩
  | 81 => ⟨S50000x3x2, .f32⟩
  | 82 => ⟨S50000x3x2, .f32⟩
  | 83 => ⟨S50000x3x2, .f32⟩
  | 84 => ⟨S50000x3x2, .f32⟩
  | 85 => ⟨S_, .f32⟩
  | 86 => ⟨S50000x3, .f32⟩
  | 87 => ⟨S_, .f32⟩
  | 88 => ⟨S50000x3, .f32⟩
  | 89 => ⟨S50000x3, .f32⟩
  | 90 => ⟨S_, .f32⟩
  | 91 => ⟨S50000x3, .f32⟩
  | 92 => ⟨S50000x3, .f32⟩
  | 93 => ⟨S1, .f32⟩
  | 94 => ⟨S1x1, .f32⟩
  | 95 => ⟨S50000x3, .f32⟩
  | 96 => ⟨S50000x3, .f32⟩
  | 97 => ⟨S50000x3, .f32⟩
  | 98 => ⟨S_, .f32⟩
  | 99 => ⟨S50000x3, .f32⟩
  | 100 => ⟨S50000x3, .f32⟩
  | 101 => ⟨S_, .f32⟩
  | 102 => ⟨S50000x3, .f32⟩
  | 103 => ⟨S50000x3, .f32⟩
  | 104 => ⟨S50000x3, .f32⟩
  | 105 => ⟨S50000x12, .f32⟩
  | 106 => ⟨S1x50000x2, .f32⟩
  | 107 => ⟨S50000x2, .f32⟩
  | 108 => ⟨S50000x1, .f32⟩
  | 109 => ⟨S50000, .f32⟩
  | 110 => ⟨S50000x1, .f32⟩
  | 111 => ⟨S50000x1, .f32⟩
  | 112 => ⟨S50000, .f32⟩
  | 113 => ⟨S50000x1, .f32⟩
  | 114 => ⟨S1x3, .f32⟩
  | 115 => ⟨S50000x3, .f32⟩
  | 116 => ⟨S50000x3, .f32⟩
  | 117 => ⟨S50000x3, .f32⟩
  | 118 => ⟨S50000x3, .f32⟩
  | 119 => ⟨S50000x3, .f32⟩
  | 120 => ⟨S50000x3, .f32⟩
  | 121 => ⟨S_, .f32⟩
  | 122 => ⟨S50000x3, .f32⟩
  | 123 => ⟨S50000x3, .f32⟩
  | 124 => ⟨S50000x1x2, .f32⟩
  | 125 => ⟨S1x3x2, .f32⟩
  | 126 => ⟨S50000x3x2, .f32⟩
  | 127 => ⟨S50000x3x2, .f32⟩
  | _ => ⟨S50000x128, .f32⟩

abbrev hbmTy0_3 (i : Nat) : BufTy := match i % 128 with
  | 0 => ⟨S50000x3x2, .f32⟩
  | 1 => ⟨S50000x3x2, .f32⟩
  | 2 => ⟨S_, .f32⟩
  | 3 => ⟨S50000x3, .f32⟩
  | 4 => ⟨S50000x3, .f32⟩
  | 5 => ⟨S_, .f32⟩
  | 6 => ⟨S50000x3, .f32⟩
  | 7 => ⟨S50000x3, .f32⟩
  | 8 => ⟨S50000x3, .f32⟩
  | 9 => ⟨S50000x3, .f32⟩
  | 10 => ⟨S1x3, .f32⟩
  | 11 => ⟨S50000x3, .f32⟩
  | 12 => ⟨S50000x3, .f32⟩
  | 13 => ⟨S50000x1x2, .f32⟩
  | 14 => ⟨S1x3x2, .f32⟩
  | 15 => ⟨S50000x3x2, .f32⟩
  | 16 => ⟨S50000x3x2, .f32⟩
  | 17 => ⟨S50000x3x2, .f32⟩
  | 18 => ⟨S50000x3x2, .f32⟩
  | 19 => ⟨S_, .f32⟩
  | 20 => ⟨S50000x3, .f32⟩
  | 21 => ⟨S_, .f32⟩
  | 22 => ⟨S50000x3, .f32⟩
  | 23 => ⟨S50000x3, .f32⟩
  | 24 => ⟨S_, .f32⟩
  | 25 => ⟨S50000x3, .f32⟩
  | 26 => ⟨S50000x3, .f32⟩
  | 27 => ⟨S1, .f32⟩
  | 28 => ⟨S1x1, .f32⟩
  | 29 => ⟨S50000x3, .f32⟩
  | 30 => ⟨S50000x3, .f32⟩
  | 31 => ⟨S50000x3, .f32⟩
  | 32 => ⟨S_, .f32⟩
  | 33 => ⟨S50000x3, .f32⟩
  | 34 => ⟨S50000x3, .f32⟩
  | 35 => ⟨S_, .f32⟩
  | 36 => ⟨S50000x3, .f32⟩
  | 37 => ⟨S50000x3, .f32⟩
  | 38 => ⟨S50000x3, .f32⟩
  | 39 => ⟨S50000x12, .f32⟩
  | 40 => ⟨S1x50000x2, .f32⟩
  | 41 => ⟨S50000x2, .f32⟩
  | 42 => ⟨S50000x1, .f32⟩
  | 43 => ⟨S50000, .f32⟩
  | 44 => ⟨S50000x1, .f32⟩
  | 45 => ⟨S50000x1, .f32⟩
  | 46 => ⟨S50000, .f32⟩
  | 47 => ⟨S50000x1, .f32⟩
  | 48 => ⟨S1x3, .f32⟩
  | 49 => ⟨S50000x3, .f32⟩
  | 50 => ⟨S50000x3, .f32⟩
  | 51 => ⟨S50000x3, .f32⟩
  | 52 => ⟨S50000x3, .f32⟩
  | 53 => ⟨S50000x3, .f32⟩
  | 54 => ⟨S50000x3, .f32⟩
  | 55 => ⟨S_, .f32⟩
  | 56 => ⟨S50000x3, .f32⟩
  | 57 => ⟨S50000x3, .f32⟩
  | 58 => ⟨S50000x1x2, .f32⟩
  | 59 => ⟨S1x3x2, .f32⟩
  | 60 => ⟨S50000x3x2, .f32⟩
  | 61 => ⟨S50000x3x2, .f32⟩
  | 62 => ⟨S50000x3x2, .f32⟩
  | 63 => ⟨S50000x3x2, .f32⟩
  | 64 => ⟨S_, .f32⟩
  | 65 => ⟨S50000x3, .f32⟩
  | 66 => ⟨S50000x3, .f32⟩
  | 67 => ⟨S_, .f32⟩
  | 68 => ⟨S50000x3, .f32⟩
  | 69 => ⟨S50000x3, .f32⟩
  | 70 => ⟨S50000x3, .f32⟩
  | 71 => ⟨S50000x3, .f32⟩
  | 72 => ⟨S1x3, .f32⟩
  | 73 => ⟨S50000x3, .f32⟩
  | 74 => ⟨S50000x3, .f32⟩
  | 75 => ⟨S50000x1x2, .f32⟩
  | 76 => ⟨S1x3x2, .f32⟩
  | 77 => ⟨S50000x3x2, .f32⟩
  | 78 => ⟨S50000x3x2, .f32⟩
  | 79 => ⟨S50000x3x2, .f32⟩
  | 80 => ⟨S50000x3x2, .f32⟩
  | 81 => ⟨S_, .f32⟩
  | 82 => ⟨S50000x3, .f32⟩
  | 83 => ⟨S_, .f32⟩
  | 84 => ⟨S50000x3, .f32⟩
  | 85 => ⟨S50000x3, .f32⟩
  | 86 => ⟨S_, .f32⟩
  | 87 => ⟨S50000x3, .f32⟩
  | 88 => ⟨S50000x3, .f32⟩
  | 89 => ⟨S1, .f32⟩
  | 90 => ⟨S1x1, .f32⟩
  | 91 => ⟨S50000x3, .f32⟩
  | 92 => ⟨S50000x3, .f32⟩
  | 93 => ⟨S50000x3, .f32⟩
  | 94 => ⟨S_, .f32⟩
  | 95 => ⟨S50000x3, .f32⟩
  | 96 => ⟨S50000x3, .f32⟩
  | 97 => ⟨S_, .f32⟩
  | 98 => ⟨S50000x3, .f32⟩
  | 99 => ⟨S50000x3, .f32⟩
  | 100 => ⟨S50000x3, .f32⟩
  | 101 => ⟨S50000x12, .f32⟩
  | 102 => ⟨S1x50000x2, .f32⟩
  | 103 => ⟨S50000x2, .f32⟩
  | 104 => ⟨S50000x1, .f32⟩
  | 105 => ⟨S50000, .f32⟩
  | 106 => ⟨S50000x1, .f32⟩
  | 107 => ⟨S50000x1, .f32⟩
  | 108 => ⟨S50000, .f32⟩
  | 109 => ⟨S50000x1, .f32⟩
  | 110 => ⟨S1x3, .f32⟩
  | 111 => ⟨S50000x3, .f32⟩
  | 112 => ⟨S50000x3, .f32⟩
  | 113 => ⟨S50000x3, .f32⟩
  | 114 => ⟨S50000x3, .f32⟩
  | 115 => ⟨S50000x3, .f32⟩
  | 116 => ⟨S50000x3, .f32⟩
  | 117 => ⟨S_, .f32⟩
  | 118 => ⟨S50000x3, .f32⟩
  | 119 => ⟨S50000x3, .f32⟩
  | 120 => ⟨S50000x1x2, .f32⟩
  | 121 => ⟨S1x3x2, .f32⟩
  | 122 => ⟨S50000x3x2, .f32⟩
  | 123 => ⟨S50000x3x2, .f32⟩
  | 124 => ⟨S50000x3x2, .f32⟩
  | 125 => ⟨S50000x3x2, .f32⟩
  | 126 => ⟨S_, .f32⟩
  | 127 => ⟨S50000x3, .f32⟩
  | _ => ⟨S50000x128, .f32⟩

abbrev hbmTy0_4 (i : Nat) : BufTy := match i % 128 with
  | 0 => ⟨S50000x3, .f32⟩
  | 1 => ⟨S_, .f32⟩
  | 2 => ⟨S50000x3, .f32⟩
  | 3 => ⟨S50000x3, .f32⟩
  | 4 => ⟨S50000x3, .f32⟩
  | 5 => ⟨S50000x3, .f32⟩
  | 6 => ⟨S1x3, .f32⟩
  | 7 => ⟨S50000x3, .f32⟩
  | 8 => ⟨S50000x3, .f32⟩
  | 9 => ⟨S50000x1x2, .f32⟩
  | 10 => ⟨S1x3x2, .f32⟩
  | 11 => ⟨S50000x3x2, .f32⟩
  | 12 => ⟨S50000x3x2, .f32⟩
  | 13 => ⟨S50000x3x2, .f32⟩
  | 14 => ⟨S50000x3x2, .f32⟩
  | 15 => ⟨S_, .f32⟩
  | 16 => ⟨S50000x3, .f32⟩
  | 17 => ⟨S_, .f32⟩
  | 18 => ⟨S50000x3, .f32⟩
  | 19 => ⟨S50000x3, .f32⟩
  | 20 => ⟨S_, .f32⟩
  | 21 => ⟨S50000x3, .f32⟩
  | 22 => ⟨S50000x3, .f32⟩
  | 23 => ⟨S1, .f32⟩
  | 24 => ⟨S1x1, .f32⟩
  | 25 => ⟨S50000x3, .f32⟩
  | 26 => ⟨S50000x3, .f32⟩
  | 27 => ⟨S50000x3, .f32⟩
  | 28 => ⟨S_, .f32⟩
  | 29 => ⟨S50000x3, .f32⟩
  | 30 => ⟨S50000x3, .f32⟩
  | 31 => ⟨S_, .f32⟩
  | 32 => ⟨S50000x3, .f32⟩
  | 33 => ⟨S50000x3, .f32⟩
  | 34 => ⟨S50000x3, .f32⟩
  | 35 => ⟨S50000x12, .f32⟩
  | 36 => ⟨S50000x96, .f32⟩
  | 37 => ⟨S50000x224, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_cst : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_3 : Ref sig .tc := ⟨.hbm, 76, rfl⟩
abbrev main_v54 : Ref sig .tc := ⟨.hbm, 77, rfl⟩
abbrev main_v55 : Ref sig .tc := ⟨.hbm, 78, rfl⟩
abbrev main_cst_4 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_5 : Ref sig .tc := ⟨.hbm, 93, rfl⟩
abbrev main_v69 : Ref sig .tc := ⟨.hbm, 94, rfl⟩
abbrev main_cst_6 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_8 : Ref sig .tc := ⟨.hbm, 106, rfl⟩
abbrev main_v79 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_call1_cst : Ref sig .tc := ⟨.hbm, 129, rfl⟩
abbrev main_call1_v0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_10 : Ref sig .tc := ⟨.hbm, 138, rfl⟩
abbrev main_v107 : Ref sig .tc := ⟨.hbm, 139, rfl⟩
abbrev main_v108 : Ref sig .tc := ⟨.hbm, 140, rfl⟩
abbrev main_cst_11 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_12 : Ref sig .tc := ⟨.hbm, 155, rfl⟩
abbrev main_v122 : Ref sig .tc := ⟨.hbm, 156, rfl⟩
abbrev main_cst_13 : Ref sig .tc := ⟨.hbm, 157, rfl⟩
abbrev main_v123 : Ref sig .tc := ⟨.hbm, 158, rfl⟩
abbrev main_v124 : Ref sig .tc := ⟨.hbm, 159, rfl⟩
abbrev main_cst_14 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_15 : Ref sig .tc := ⟨.hbm, 168, rfl⟩
abbrev main_v132 : Ref sig .tc := ⟨.hbm, 169, rfl⟩
abbrev main_v133 : Ref sig .tc := ⟨.hbm, 170, rfl⟩
abbrev main_cst_16 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_call2_cst : Ref sig .tc := ⟨.hbm, 191, rfl⟩
abbrev main_call2_v0 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_17 : Ref sig .tc := ⟨.hbm, 200, rfl⟩
abbrev main_v160 : Ref sig .tc := ⟨.hbm, 201, rfl⟩
abbrev main_v161 : Ref sig .tc := ⟨.hbm, 202, rfl⟩
abbrev main_cst_18 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_19 : Ref sig .tc := ⟨.hbm, 217, rfl⟩
abbrev main_v175 : Ref sig .tc := ⟨.hbm, 218, rfl⟩
abbrev main_cst_20 : Ref sig .tc := ⟨.hbm, 219, rfl⟩
abbrev main_v176 : Ref sig .tc := ⟨.hbm, 220, rfl⟩
abbrev main_v177 : Ref sig .tc := ⟨.hbm, 221, rfl⟩
abbrev main_cst_21 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_22 : Ref sig .tc := ⟨.hbm, 230, rfl⟩
abbrev main_v185 : Ref sig .tc := ⟨.hbm, 231, rfl⟩
abbrev main_v186 : Ref sig .tc := ⟨.hbm, 232, rfl⟩
abbrev main_cst_23 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_call3_cst : Ref sig .tc := ⟨.hbm, 253, rfl⟩
abbrev main_call3_v0 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_cst_24 : Ref sig .tc := ⟨.hbm, 262, rfl⟩
abbrev main_v213 : Ref sig .tc := ⟨.hbm, 263, rfl⟩
abbrev main_v214 : Ref sig .tc := ⟨.hbm, 264, rfl⟩
abbrev main_cst_25 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_cst_26 : Ref sig .tc := ⟨.hbm, 279, rfl⟩
abbrev main_v228 : Ref sig .tc := ⟨.hbm, 280, rfl⟩
abbrev main_cst_27 : Ref sig .tc := ⟨.hbm, 281, rfl⟩
abbrev main_v229 : Ref sig .tc := ⟨.hbm, 282, rfl⟩
abbrev main_v230 : Ref sig .tc := ⟨.hbm, 283, rfl⟩
abbrev main_cst_28 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_29 : Ref sig .tc := ⟨.hbm, 292, rfl⟩
abbrev main_v238 : Ref sig .tc := ⟨.hbm, 293, rfl⟩
abbrev main_v239 : Ref sig .tc := ⟨.hbm, 294, rfl⟩
abbrev main_cst_30 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_call4_cst : Ref sig .tc := ⟨.hbm, 315, rfl⟩
abbrev main_call4_v0 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_cst_31 : Ref sig .tc := ⟨.hbm, 324, rfl⟩
abbrev main_v266 : Ref sig .tc := ⟨.hbm, 325, rfl⟩
abbrev main_v267 : Ref sig .tc := ⟨.hbm, 326, rfl⟩
abbrev main_cst_32 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_cst_33 : Ref sig .tc := ⟨.hbm, 341, rfl⟩
abbrev main_v281 : Ref sig .tc := ⟨.hbm, 342, rfl⟩
abbrev main_cst_34 : Ref sig .tc := ⟨.hbm, 343, rfl⟩
abbrev main_v282 : Ref sig .tc := ⟨.hbm, 344, rfl⟩
abbrev main_v283 : Ref sig .tc := ⟨.hbm, 345, rfl⟩
abbrev main_cst_35 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_cst_36 : Ref sig .tc := ⟨.hbm, 354, rfl⟩
abbrev main_v291 : Ref sig .tc := ⟨.hbm, 355, rfl⟩
abbrev main_v292 : Ref sig .tc := ⟨.hbm, 356, rfl⟩
abbrev main_cst_37 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_call5_cst : Ref sig .tc := ⟨.hbm, 377, rfl⟩
abbrev main_call5_v0 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_cst_38 : Ref sig .tc := ⟨.hbm, 386, rfl⟩
abbrev main_v319 : Ref sig .tc := ⟨.hbm, 387, rfl⟩
abbrev main_v320 : Ref sig .tc := ⟨.hbm, 388, rfl⟩
abbrev main_cst_39 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_cst_40 : Ref sig .tc := ⟨.hbm, 403, rfl⟩
abbrev main_v334 : Ref sig .tc := ⟨.hbm, 404, rfl⟩
abbrev main_cst_41 : Ref sig .tc := ⟨.hbm, 405, rfl⟩
abbrev main_v335 : Ref sig .tc := ⟨.hbm, 406, rfl⟩
abbrev main_v336 : Ref sig .tc := ⟨.hbm, 407, rfl⟩
abbrev main_cst_42 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_cst_43 : Ref sig .tc := ⟨.hbm, 416, rfl⟩
abbrev main_v344 : Ref sig .tc := ⟨.hbm, 417, rfl⟩
abbrev main_v345 : Ref sig .tc := ⟨.hbm, 418, rfl⟩
abbrev main_cst_44 : Ref sig .tc := ⟨.hbm, 419, rfl⟩
abbrev main_v346 : Ref sig .tc := ⟨.hbm, 420, rfl⟩
abbrev main_v347 : Ref sig .tc := ⟨.hbm, 421, rfl⟩
abbrev main_v348 : Ref sig .tc := ⟨.hbm, 422, rfl⟩
abbrev main_v349 : Ref sig .tc := ⟨.hbm, 423, rfl⟩
abbrev main_v350 : Ref sig .tc := ⟨.hbm, 424, rfl⟩
abbrev main_v351 : Ref sig .tc := ⟨.hbm, 425, rfl⟩
abbrev main_v352 : Ref sig .tc := ⟨.hbm, 426, rfl⟩
abbrev main_v353 : Ref sig .tc := ⟨.hbm, 427, rfl⟩
abbrev main_v354 : Ref sig .tc := ⟨.hbm, 428, rfl⟩
abbrev main_v355 : Ref sig .tc := ⟨.hbm, 429, rfl⟩
abbrev main_v356 : Ref sig .tc := ⟨.hbm, 430, rfl⟩
abbrev main_v357 : Ref sig .tc := ⟨.hbm, 431, rfl⟩
abbrev main_v358 : Ref sig .tc := ⟨.hbm, 432, rfl⟩
abbrev main_v359 : Ref sig .tc := ⟨.hbm, 433, rfl⟩
abbrev main_v360 : Ref sig .tc := ⟨.hbm, 434, rfl⟩
abbrev main_v361 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_call6_cst : Ref sig .tc := ⟨.hbm, 439, rfl⟩
abbrev main_call6_v0 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_cst_45 : Ref sig .tc := ⟨.hbm, 448, rfl⟩
abbrev main_v372 : Ref sig .tc := ⟨.hbm, 449, rfl⟩
abbrev main_v373 : Ref sig .tc := ⟨.hbm, 450, rfl⟩
abbrev main_cst_46 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_v381 : Ref sig .tc := ⟨.hbm, 459, rfl⟩
abbrev main_v382 : Ref sig .tc := ⟨.hbm, 460, rfl⟩
abbrev main_v383 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_cst_47 : Ref sig .tc := ⟨.hbm, 465, rfl⟩
abbrev main_v387 : Ref sig .tc := ⟨.hbm, 466, rfl⟩
abbrev main_cst_48 : Ref sig .tc := ⟨.hbm, 467, rfl⟩
abbrev main_v388 : Ref sig .tc := ⟨.hbm, 468, rfl⟩
abbrev main_v389 : Ref sig .tc := ⟨.hbm, 469, rfl⟩
abbrev main_cst_49 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_cst_50 : Ref sig .tc := ⟨.hbm, 478, rfl⟩
abbrev main_v397 : Ref sig .tc := ⟨.hbm, 479, rfl⟩
abbrev main_v398 : Ref sig .tc := ⟨.hbm, 480, rfl⟩
abbrev main_cst_51 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_call7_cst : Ref sig .tc := ⟨.hbm, 501, rfl⟩
abbrev main_call7_v0 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424 : Ref sig .tc := ⟨.hbm, 509, rfl⟩
abbrev main_cst_52 : Ref sig .tc := ⟨.hbm, 510, rfl⟩
abbrev main_v425 : Ref sig .tc := ⟨.hbm, 511, rfl⟩
abbrev main_v426 : Ref sig .tc := ⟨.hbm, 512, rfl⟩
abbrev main_cst_53 : Ref sig .tc := ⟨.hbm, 513, rfl⟩
abbrev main_v427 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_cst_54 : Ref sig .tc := ⟨.hbm, 527, rfl⟩
abbrev main_v440 : Ref sig .tc := ⟨.hbm, 528, rfl⟩
abbrev main_cst_55 : Ref sig .tc := ⟨.hbm, 529, rfl⟩
abbrev main_v441 : Ref sig .tc := ⟨.hbm, 530, rfl⟩
abbrev main_v442 : Ref sig .tc := ⟨.hbm, 531, rfl⟩
abbrev main_cst_56 : Ref sig .tc := ⟨.hbm, 532, rfl⟩
abbrev main_v443 : Ref sig .tc := ⟨.hbm, 533, rfl⟩
abbrev main_v444 : Ref sig .tc := ⟨.hbm, 534, rfl⟩
abbrev main_v445 : Ref sig .tc := ⟨.hbm, 535, rfl⟩
abbrev main_v446 : Ref sig .tc := ⟨.hbm, 536, rfl⟩
abbrev main_v447 : Ref sig .tc := ⟨.hbm, 537, rfl⟩
abbrev main_v448 : Ref sig .tc := ⟨.hbm, 538, rfl⟩
abbrev main_v449 : Ref sig .tc := ⟨.hbm, 539, rfl⟩
abbrev main_cst_57 : Ref sig .tc := ⟨.hbm, 540, rfl⟩
abbrev main_v450 : Ref sig .tc := ⟨.hbm, 541, rfl⟩
abbrev main_v451 : Ref sig .tc := ⟨.hbm, 542, rfl⟩
abbrev main_cst_58 : Ref sig .tc := ⟨.hbm, 543, rfl⟩
abbrev main_v452 : Ref sig .tc := ⟨.hbm, 544, rfl⟩
abbrev main_v453 : Ref sig .tc := ⟨.hbm, 545, rfl⟩
abbrev main_v454 : Ref sig .tc := ⟨.hbm, 546, rfl⟩
abbrev main_v455 : Ref sig .tc := ⟨.hbm, 547, rfl⟩
abbrev main_v456 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_call8_cst : Ref sig .tc := ⟨.hbm, 554, rfl⟩
abbrev main_call8_v0 : Ref sig .tc := ⟨.hbm, 555, rfl⟩
abbrev main_v462 : Ref sig .tc := ⟨.hbm, 556, rfl⟩

abbrev nD : Nat := 1
abbrev τ : Topo := Topo.v7x

variable {F : FTy → Type} [FloatOps F]
-- ==== Proof.Table.lean ====
/- The kernel's parameter rows: a row of twelve entries written in four pieces of three, repeated eight times and padded
   to 128 lanes, read at a lane. -/
module

public import proofs.«01_k».proof.Proof.Gen.KernelIdeal
public import Idealize.ShloMosaic.Lib.Routing.OpsSet
public import Idealize.ShloMosaic.Lib.KernelVsHost
public import Idealize.ShloMosaic.Lib.ValueIdx
public import Idealize.ShloMosaic.Lib.Pipeline.Value

@[expose] public section

noncomputable section

namespace Cert.Filt

open Idealize.ShloMosaic Idealize.ShloMosaic.ValueIdx Cert.KernelIdeal Cert.KernelIdeal.Gen

/-- Three entries of a row of twelve set from `start` on. -/
def setAt (x : FVec Ideal S12 .f32) (start : BitVec 32) (u : FVec Ideal S3 .f32) : FVec Ideal S12 .f32 :=
  Host.scatter scatter_S12_S1_S3_0_n_0_0 (fun _ b => b) x (broadcastInDim S1 ![] bcast_S_S1 (constantI S_ 32 start)) u

/-- The row of twelve: `z` everywhere, then its four pieces. -/
def table (z : FVec Ideal S_ .f32) (a0 a1 a2 a3 : FVec Ideal S3 .f32) : FVec Ideal S12 .f32 :=
  setAt (setAt (setAt (setAt (broadcastInDim S12 ![] bcast_S_S12 z) 0#32 a0) 3#32 a1) 6#32 a2) 9#32 a3

/-- The row of 128 lanes: the row of twelve eight times, then the padding value `zp`. -/
def row (z zp : FVec Ideal S_ .f32) (a0 a1 a2 a3 : FVec Ideal S3 .f32) : FVec Ideal S1x128 .f32 :=
  broadcastInDim S1x128 ![1] bcast_S128_S1x128_1
    (pad S128 ![0] ![32] ![0]
      (shapeCast S96 (broadcastInDim S8x12 ![0, 1] bcast_S1x12_S8x12_0_1 (shapeCast S1x12 (table z a0 a1 a2 a3) shapeCasts_S12_S1x12))
        shapeCasts_S8x12_S96)
      zp pads_S96_S128_0320 h_S_)

/-! ## The row of twelve -/

/-- Where update `k` of piece `p` lands. -/
theorem lands (p : Fin 4) (k : Fin 3) :
    scatter_S12_S1_S3_0_n_0_0.resultIdx? (ix1 k) (fun _ => BitVec.ofNat 32 (3 * p.val) : IVec S1 32)
      = some (ix1 ⟨3 * p.val + k.val, by omega⟩) := by
  revert p k; decide +kernel

/-- The written piece holds the update. -/
theorem setAt_hit (p : Fin 4) (q : Fin 3) (x : FVec Ideal S12 .f32) (u : FVec Ideal S3 .f32) :
    setAt x (BitVec.ofNat 32 (3 * p.val)) u (ix1 ⟨3 * p.val + q.val, by omega⟩) = u (ix1 q) := by
  unfold setAt
  refine Routing.scatter_set_hit _ x _ u _ (u (ix1 q)) (fun k hk => ?_) (ix1 q) (lands p q)
  rw [eq_ix1 k] at hk ⊢
  have e := (lands p (k 0)).symm.trans hk
  have e0 := congrArg Fin.val (congrFun (Option.some.inj e) 0)
  have e1 : 3 * p.val + (k 0).val = 3 * p.val + q.val := e0
  have e2 : k 0 = q := Fin.ext (by omega)
  exact congrArg (fun t => u (ix1 t)) e2

/-- The other pieces keep what they hold. -/
theorem setAt_miss (p p' : Fin 4) (hp : p ≠ p') (q : Fin 3) (x : FVec Ideal S12 .f32) (u : FVec Ideal S3 .f32) :
    setAt x (BitVec.ofNat 32 (3 * p.val)) u (ix1 ⟨3 * p'.val + q.val, by omega⟩) = x (ix1 ⟨3 * p'.val + q.val, by omega⟩) := by
  unfold setAt
  refine Routing.scatter_set_miss _ x _ u _ (fun k hk => hp ?_)
  rw [eq_ix1 k] at hk
  have e := (lands p (k 0)).symm.trans hk
  have e0 := congrArg Fin.val (congrFun (Option.some.inj e) 0)
  have e1 : 3 * p.val + (k 0).val = 3 * p'.val + q.val := e0
  have hk0 : (k 0).val < 3 := (k 0).isLt
  exact Fin.ext (by omega)

/-- Piece `p` of the row of twelve is the `p`-th of the four vectors. -/
theorem table_apply (z : FVec Ideal S_ .f32) (a : Fin 4 → FVec Ideal S3 .f32) (p : Fin 4) (q : Fin 3) :
    table z (a 0) (a 1) (a 2) (a 3) (ix1 ⟨3 * p.val + q.val, by omega⟩) = a p (ix1 q) := by
  have hit : ∀ (p : Fin 4) (x : FVec Ideal S12 .f32), setAt x (BitVec.ofNat 32 (3 * p.val)) (a p) (ix1 ⟨3 * p.val + q.val, by omega⟩) = a p (ix1 q) :=
    fun p x => setAt_hit p q x (a p)
  have miss : ∀ (p p' : Fin 4) (x : FVec Ideal S12 .f32), p ≠ p' →
      setAt x (BitVec.ofNat 32 (3 * p.val)) (a p) (ix1 ⟨3 * p'.val + q.val, by omega⟩) = x (ix1 ⟨3 * p'.val + q.val, by omega⟩) :=
    fun p p' x hp => setAt_miss p p' hp q x (a p)
  show setAt (setAt (setAt (setAt _ (BitVec.ofNat 32 (3 * (0 : Fin 4).val)) (a 0)) (BitVec.ofNat 32 (3 * (1 : Fin 4).val)) (a 1))
    (BitVec.ofNat 32 (3 * (2 : Fin 4).val)) (a 2)) (BitVec.ofNat 32 (3 * (3 : Fin 4).val)) (a 3) _ = _
  match p with
  | 0 => rw [miss 3 0 _ (by decide), miss 2 0 _ (by decide), miss 1 0 _ (by decide), hit]
  | 1 => rw [miss 3 1 _ (by decide), miss 2 1 _ (by decide), hit]
  | 2 => rw [miss 3 2 _ (by decide), hit]
  | 3 => rw [hit]

/-! ## The row of 128 lanes -/

/-- Lane `12 f + 3 p + q` of a row holds entry `q` of its `p`-th vector. -/
theorem row_apply (z zp : FVec Ideal S_ .f32) (a : Fin 4 → FVec Ideal S3 .f32) (f : Fin 8) (p : Fin 4) (q : Fin 3) :
    row z zp (a 0) (a 1) (a 2) (a 3) (ix2 0 ⟨12 * f.val + (3 * p.val + q.val), by omega⟩) = a p (ix1 q) := by
  unfold row
  rw [broadcastInDim_apply _ bcast_S128_S1x128_1 _ _ (ix1 ⟨12 * f.val + (3 * p.val + q.val), by omega⟩)
      (fun b => match b with | ⟨0, _⟩ => rfl),
    pad_apply_of_inside ![0] ![32] ![0] _ zp pads_S96_S128_0320 h_S_ _ (ix1 ⟨12 * f.val + (3 * p.val + q.val), by omega⟩)
      (fun b => match b with | ⟨0, _⟩ => by show 12 * f.val + (3 * p.val + q.val) = 0 + (12 * f.val + (3 * p.val + q.val)) * (0 + 1); omega),
    shapeCast_apply _ shapeCasts_S8x12_S96 _ (ix2 f ⟨3 * p.val + q.val, by omega⟩)
      (by rw [Shape.rowMajor_val_one, Shape.rowMajor_val_two]
          show f.val * 12 + (3 * p.val + q.val) = 12 * f.val + (3 * p.val + q.val)
          omega),
    broadcastInDim_apply _ bcast_S1x12_S8x12_0_1 _ _ (ix2 0 ⟨3 * p.val + q.val, by omega⟩)
      (fun b => match b with | ⟨0, _⟩ => rfl | ⟨1, _⟩ => rfl),
    shapeCast_apply _ shapeCasts_S12_S1x12 _ (ix1 ⟨3 * p.val + q.val, by omega⟩)
      (by rw [Shape.rowMajor_val_one, Shape.rowMajor_val_two]
          show 3 * p.val + q.val = 0 * 12 + (3 * p.val + q.val)
          omega)]
  exact table_apply z a p q

end Cert.Filt

end
-- ==== Proof.Reads.lean ====
/- What the host operations before the launch leave in each array the kernel's windows stage, as the same operations on
   the arguments. -/
module

public import proofs.«01_k».proof.Proof.Gen.KernelIdeal.Frame
public import proofs.«01_k».proof.Proof.Table
public import Idealize.ShloMosaic.Lib.StableHlo.RunRead

@[expose] public section

set_option maxRecDepth 16384

noncomputable section

namespace Cert.Filt

open Idealize.ShloMosaic Idealize.ShloMosaic.TcCoe Idealize.ShloMosaic.ValueIdx Cert.KernelIdeal Cert.KernelIdeal.Gen

/-! ## The vectors of three -/

/-- A column of a `3×2` array. -/
def colA (x : FVec Ideal S3x2 .f32) : FVec Ideal S3 .f32 :=
  shapeCast S3 (extractStridedSlice S3x1 ![0, 0] x slices_S3x2_S3x1_0_0) shapeCasts_S3x1_S3

/-- The other column of a `3×2` array. -/
def colB (x : FVec Ideal S3x2 .f32) : FVec Ideal S3 .f32 :=
  shapeCast S3 (extractStridedSlice S3x1 ![0, 1] x slices_S3x2_S3x1_0_1) shapeCasts_S3x1_S3

/-- The sum of the two rows of a `2×3` array. -/
def rowSum (x : FVec Ideal S2x3 .f32) : FVec Ideal S3 .f32 :=
  addf (shapeCast S3 (extractStridedSlice S1x3 ![0, 0] x slices_S2x3_S1x3_0_0) shapeCasts_S1x3_S3)
    (shapeCast S3 (extractStridedSlice S1x3 ![1, 0] x slices_S2x3_S1x3_1_0) shapeCasts_S1x3_S3)

/-- Three copies of a constant. -/
def const3 (w : BitVec 32) : FVec Ideal S3 .f32 := broadcastInDim S3 ![] bcast_S_S3 (constant S_ .f32 w)

/-- The Gaussian columns' factor. -/
def gbV (mu : FVec Ideal S3x2 .f32) : FVec Ideal S3 .f32 :=
  mulf (const3 0x42C80000#32) (addf (colA mu) (colB mu))

/-- The Gaussian columns' offset. -/
def gcV (mu : FVec Ideal S3x2 .f32) : FVec Ideal S3 .f32 :=
  mulf (const3 0xC2480000#32) (addf (mulf (colA mu) (colA mu)) (mulf (colB mu) (colB mu)))

/-- Three copies of the radius's absolute value. -/
def raV (r : FVec Ideal S1 .f32) : FVec Ideal S3 .f32 :=
  broadcastInDim S3 ![] bcast_S_S3 (Host.absf (shapeCast S_ r shapeCasts_S1_S_))

/-! ## The rows of the parameter array -/

/-- The eight rows of the parameter array, over the arguments. -/
def params (t : FVec Ideal S3 .f32) (mu : FVec Ideal S3x2 .f32) (lW : FVec Ideal S2x3 .f32) (lB : FVec Ideal S3 .f32)
    (cp : FVec Ideal S3x2 .f32) (r : FVec Ideal S1 .f32) : Fin 8 → FVec Ideal S1x128 .f32 :=
  let z := const3 0#32
  let zero : FVec Ideal S_ .f32 := constant S_ .f32 0#32
  ![row (constant S_ .f32 0xF149F2CA#32) (constant S_ .f32 0xF149F2CA#32) t (const3 0xF149F2CA#32) (const3 0xF149F2CA#32) (const3 0xF149F2CA#32),
    row zero zero z (gbV mu) z z,
    row (constant S_ .f32 0xFE967699#32) (constant S_ .f32 0xFE967699#32) (const3 0xFF800000#32) (gcV mu) (const3 0xFF800000#32) (const3 0xFF800000#32),
    row zero zero z z (rowSum lW) z,
    row zero zero z z lB z,
    row zero zero z z z (colA cp),
    row zero zero z z z (colB cp),
    row zero zero z z z (raV r)]

/-- Eight rows stacked. -/
def stack (u : Fin 8 → FVec Ideal S1x128 .f32) : FVec Ideal S8x128 .f32 :=
  concatenate S8x128 0 [⟨S1x128, u 0⟩, ⟨S1x128, u 1⟩, ⟨S1x128, u 2⟩, ⟨S1x128, u 3⟩, ⟨S1x128, u 4⟩, ⟨S1x128, u 5⟩, ⟨S1x128, u 6⟩, ⟨S1x128, u 7⟩]
    concatenates_S1x128_S1x128_S1x128_S1x128_S1x128_S1x128_S1x128_S1x128_S8x128_d0

/-! ## The other staged arrays -/

/-- The padding value of the weights. -/
def padZero : FVec Ideal S_ .f32 := sitofp .f32 (constantI S_ 32 0#32)

/-- Each column twelve times, padded to 128 columns. -/
def w2R (w : FVec Ideal S128x8 .f32) : FVec Ideal S128x128 .f32 :=
  pad S128x128 ![0, 0] ![0, 32] ![0, 0]
    (shapeCast S128x96 (broadcastInDim S128x8x12 ![0, 1] bcast_S128x8_S128x8x12_0_1 w) shapeCasts_S128x8x12_S128x96)
    padZero pads_S128x96_S128x128_000_0320 h_S_

/-- Each entry twelve times, padded to 128 lanes. -/
def b2R (b : FVec Ideal S8 .f32) : FVec Ideal S1x128 .f32 :=
  shapeCast S1x128 (pad S128 ![0] ![32] ![0] (shapeCast S96 (broadcastInDim S8x12 ![0] bcast_S8_S8x12_0 b) shapeCasts_S8x12_S96)
    padZero pads_S96_S128_0320 h_S_) shapeCasts_S128_S1x128

/-- The first 128 rows. -/
def top128 (w : FVec Ideal S224x128 .f32) : FVec Ideal S128x128 .f32 :=
  extractStridedSlice S128x128 ![0, 0] w slices_S224x128_S128x128_0_0

/-- The last 96 rows, padded to 128. -/
def last96 (w : FVec Ideal S224x128 .f32) : FVec Ideal S128x128 .f32 :=
  pad S128x128 ![0, 0] ![32, 0] ![0, 0] (extractStridedSlice S96x128 ![128, 0] w slices_S224x128_S96x128_128_0)
    padZero pads_S96x128_S128x128_0320_000 h_S_

/-- A vector of 128 as a row. -/
def asRow (b : FVec Ideal S128 .f32) : FVec Ideal S1x128 .f32 := shapeCast S1x128 b shapeCasts_S128_S1x128

/-! ## What the host operations leave -/

variable (m : (ℓ : Loc nD τ sig) → Buf (Elt Ideal) ℓ) (c : Dev nD)

set_option maxHeartbeats 4000000 in
/-- The parameter array is its eight rows. -/
theorem V_params : V m c main_call0_v152
    = stack (params (m (c, main_arg7)) (m (c, main_arg8)) (m (c, main_arg9)) (m (c, main_arg10)) (m (c, main_arg11)) (m (c, main_arg12))) := by
  unfold V
  after_reads_simp
  rfl

/-- The second layer's weights, each column twelve times. -/
theorem V_w2 : V m c main_call0_v2 = w2R (m (c, main_arg5)) := by
  unfold V
  after_reads_simp
  rfl

/-- The second layer's offsets, each twelve times. -/
theorem V_b2 : V m c main_call0_v6 = b2R (m (c, main_arg6)) := by
  unfold V
  after_reads_simp
  rfl

/-- The output weights' first 128 rows. -/
theorem V_ow1 : V m c main_call0_v153 = top128 (m (c, main_arg13)) := by
  unfold V
  after_reads_simp
  rfl

/-- The output weights' last 96 rows, padded. -/
theorem V_ow2 : V m c main_call0_v155 = last96 (m (c, main_arg13)) := by
  unfold V
  after_reads_simp
  rfl

/-- The first layer's offsets as a row. -/
theorem V_b1 : V m c main_call0_v156 = asRow (m (c, main_arg4)) := by
  unfold V
  after_reads_simp
  rfl

/-- The output offsets as a row. -/
theorem V_ob : V m c main_call0_v157 = asRow (m (c, main_arg14)) := by
  unfold V
  after_reads_simp
  rfl

end Cert.Filt

end
-- ==== Proof.Coord.lean ====
/- The coordinate functions over the extended reals: the one formula the kernel evaluates in every column, the four
   formulas of the reference, and that the first is each of the four at the parameters of its columns. -/
module

public import Idealize.ShloMosaic.PureOps.Ideal
public import Mathlib.Tactic.FieldSimp
public import Mathlib.Tactic.Ring
public import Mathlib.Tactic.Linarith
public import Mathlib.Tactic.Positivity
public import Mathlib.Tactic.Lift
public import Mathlib.Tactic.NormNum
public import Mathlib.Tactic.Push

@[expose] public section

noncomputable section

namespace Cert.Filt

open Idealize.ShloMosaic

/-- The absolute value at the ideal instance. -/
def abv (x : EReal) : EReal := max x (-x)

/-- The distance of the pair `(v, v)` from the pair `(c0, c1)`: the sum of the two absolute differences. -/
def dist (v c0 c1 : EReal) : EReal := abv (v - c0) + abv (v - c1)

/-- What the kernel computes in a column whose eight parameters are `tv … ra`, at the score `v`. -/
def act (v tv gb gc lw lb c0 c1 ra : EReal) : EReal :=
  (max (v - abv (v - tv)) 0 + Ideal.exp ((gb - ((100 : ℝ) : EReal) * v) * v + gc))
    + ((v * lw + lb)
      + Ideal.div (abv (ra - dist v c0 c1) - dist v c0 c1) ((1 + dist v c0 c1) * (1 + abv (ra - dist v c0 c1))))

/-- The triangle function of the reference. -/
def tri (v t : EReal) : EReal := max (v - abv (v - t)) 0

/-- The Gaussian function of the reference. -/
def gau (v m0 m1 : EReal) : EReal :=
  Ideal.exp (-((v - m0) * (v - m0) + (v - m1) * (v - m1)) * ((50 : ℝ) : EReal))

/-- The line function of the reference. -/
def lin (v w0 w1 b : EReal) : EReal := (v * w0 + v * w1) + b

/-- The rational hat function of the reference. -/
def rat (v c0 c1 r : EReal) : EReal :=
  Ideal.div 1 (1 + dist v c0 c1) - Ideal.div 1 (1 + abv (abv r - dist v c0 c1))

/-! ## Absolute values and quotients -/

/-- On a real number it is the real absolute value. -/
theorem abv_coe (x : ℝ) : abv (x : EReal) = ((|x| : ℝ) : EReal) := by
  unfold abv
  rw [← EReal.coe_neg, ← EReal.coe_strictMono.monotone.map_max, abs_eq_max_neg]

/-- The distance is never negative. -/
theorem abv_nonneg (x : EReal) : 0 ≤ abv x := by
  induction x with
  | bot => exact le_top.trans (le_of_eq (by simp [abv]))
  | top => exact le_top.trans (le_of_eq (by simp [abv]))
  | coe x => rw [abv_coe]; exact_mod_cast abs_nonneg x

/-- The distance of real pairs is real. -/
theorem dist_coe (v c0 c1 : ℝ) : dist (v : EReal) (c0 : EReal) (c1 : EReal) = ((|v - c0| + |v - c1| : ℝ) : EReal) := by
  unfold dist
  rw [← EReal.coe_sub, ← EReal.coe_sub, abv_coe, abv_coe, ← EReal.coe_add]

/-- A real number is infinitely far from an infinite one. -/
theorem abv_sub_inf (v : ℝ) (c : EReal) (h : c = ⊥ ∨ c = ⊤) : abv ((v : EReal) - c) = ⊤ := by
  rcases h with rfl | rfl <;> simp [abv]

/-- A pair with an infinite part is infinitely far from a real pair. -/
theorem dist_inf (v : ℝ) (c0 c1 : EReal) (h : (c0 = ⊥ ∨ c0 = ⊤) ∨ (c1 = ⊥ ∨ c1 = ⊤)) : dist (v : EReal) c0 c1 = ⊤ := by
  unfold dist
  rcases h with h | h
  · rw [abv_sub_inf v c0 h]
    exact EReal.top_add_of_ne_bot (fun e => by have := abv_nonneg ((v : EReal) - c1); rw [e] at this; exact absurd this (by simp))
  · rw [abv_sub_inf v c1 h]
    exact EReal.add_top_of_ne_bot (fun e => by have := abv_nonneg ((v : EReal) - c0); rw [e] at this; exact absurd this (by simp))

/-- The ideal quotient of two real numbers. -/
theorem div_real (x y : ℝ) (h : y ≠ 0) : Ideal.div (x : EReal) (y : EReal) = ((x / y : ℝ) : EReal) := by
  rw [Ideal.div_coe h, ← EReal.coe_mul]; congr 1; field_simp

/-- The exponential of a real number. -/
theorem exp_coe (x : ℝ) : Ideal.exp (x : EReal) = ((Real.exp x : ℝ) : EReal) := rfl

/-- The exponential of minus infinity. -/
theorem exp_bot : Ideal.exp ⊥ = 0 := rfl

/-! ## The parts that a column switches off -/

/-- The triangle at a peak that is not positive is zero. -/
theorem tri_off (v T : ℝ) (h : T ≤ 0) : max ((v : EReal) - abv ((v : EReal) - (T : EReal))) 0 = 0 := by
  rw [← EReal.coe_sub, abv_coe, ← EReal.coe_sub]
  apply max_eq_right
  have : v - |v - T| ≤ 0 := by linarith [le_abs_self (v - T)]
  exact_mod_cast this

/-- The Gaussian at the shift minus infinity is zero. -/
theorem gau_off (v : EReal) (gb : EReal) : Ideal.exp ((gb - ((100 : ℝ) : EReal) * v) * v + ⊥) = 0 := by
  rw [EReal.add_bot, exp_bot]

/-- The line with no slope and no offset is zero. -/
theorem lin_off (v : EReal) : v * 0 + 0 = (0 : EReal) := by simp

/-- The quotient of the rational hat at centre and radius zero is zero. -/
theorem rat_off (v : ℝ) :
    Ideal.div (abv (0 - dist (v : EReal) 0 0) - dist (v : EReal) 0 0)
      ((1 + dist (v : EReal) 0 0) * (1 + abv (0 - dist (v : EReal) 0 0))) = 0 := by
  have e := dist_coe v 0 0
  rw [EReal.coe_zero] at e
  rw [e, ← EReal.coe_zero, ← EReal.coe_one, ← EReal.coe_sub, abv_coe]
  have hd : |(0 : ℝ) - (|v - 0| + |v - 0|)| = |v - 0| + |v - 0| := by
    rw [zero_sub, abs_neg, abs_of_nonneg (by positivity)]
  rw [hd, ← EReal.coe_sub, ← EReal.coe_add, ← EReal.coe_mul, sub_self, div_real _ _ (by positivity), zero_div]

/-! ## The columns of each kind -/

/-- A triangle column. -/
theorem act_tri (v : ℝ) (t : EReal) : act (v : EReal) t 0 ⊥ 0 0 0 0 0 = tri (v : EReal) t := by
  unfold act tri
  rw [gau_off, lin_off, rat_off]; simp

/-- A Gaussian column: the squares of the reference, multiplied out; at an infinite centre both sides are zero. -/
theorem act_gau (v T : ℝ) (hT : T ≤ 0) (m0 m1 : EReal) :
    act (v : EReal) (T : EReal) (((100 : ℝ) : EReal) * (m0 + m1)) (((-50 : ℝ) : EReal) * (m0 * m0 + m1 * m1)) 0 0 0 0 0
      = gau (v : EReal) m0 m1 := by
  unfold act
  rw [tri_off v T hT, lin_off, rat_off, zero_add, add_zero, add_zero]
  unfold gau
  have sq : ∀ x : EReal, 0 ≤ x * x := by
    intro x
    induction x with
    | bot => simp
    | top => simp
    | coe x => rw [← EReal.coe_mul]; exact_mod_cast mul_self_nonneg x
  have nb : ∀ x : EReal, x * x ≠ ⊥ := fun x e => by have := sq x; rw [e] at this; exact absurd this (by simp)
  have inf : ∀ a b : EReal, a = ⊤ → b ≠ ⊥ → ((-50 : ℝ) : EReal) * (a + b) = ⊥ ∧ -(a + b) * ((50 : ℝ) : EReal) = ⊥ := by
    rintro a b rfl hb
    rw [EReal.top_add_of_ne_bot hb]
    exact ⟨EReal.coe_mul_top_of_neg (by norm_num), by rw [EReal.neg_top]; exact EReal.bot_mul_coe_of_pos (by norm_num)⟩
  have both : ∀ c : EReal, (c = ⊥ ∨ c = ⊤) → c * c = ⊤ ∧ ((v : EReal) - c) * ((v : EReal) - c) = ⊤ := by
    rintro c (rfl | rfl) <;> simp
  by_cases h0 : m0 = ⊥ ∨ m0 = ⊤
  · obtain ⟨e1, e2⟩ := both m0 h0
    rw [(inf _ _ e1 (nb m1)).1, (inf _ _ e2 (nb _)).2, EReal.add_bot]
  · by_cases h1 : m1 = ⊥ ∨ m1 = ⊤
    · obtain ⟨e1, e2⟩ := both m1 h1
      rw [add_comm (m0 * m0), add_comm (((v : EReal) - m0) * _), (inf _ _ e1 (nb m0)).1, (inf _ _ e2 (nb _)).2, EReal.add_bot]
    · push Not at h0 h1
      lift m0 to ℝ using ⟨h0.2, h0.1⟩
      lift m1 to ℝ using ⟨h1.2, h1.1⟩
      norm_cast
      rw [exp_coe, exp_coe]
      congr 2
      push_cast
      ring

/-- A line column: the two slopes of the reference add up before the product. -/
theorem act_lin (v T w0 w1 : ℝ) (hT : T ≤ 0) (b : EReal) :
    act (v : EReal) (T : EReal) 0 ⊥ ((w0 : EReal) + (w1 : EReal)) b 0 0 0 = lin (v : EReal) (w0 : EReal) (w1 : EReal) b := by
  unfold act
  rw [tri_off v T hT, gau_off, rat_off, zero_add, zero_add, add_zero]
  unfold lin
  rw [← EReal.coe_add, ← EReal.coe_mul, ← EReal.coe_mul, ← EReal.coe_mul, ← EReal.coe_add, mul_add]

/-- A rational column: the difference of the two quotients of the reference over their common denominator; at an infinite
    centre both sides are zero. -/
theorem act_rat (v T r : ℝ) (hT : T ≤ 0) (c0 c1 : EReal) :
    act (v : EReal) (T : EReal) 0 ⊥ 0 0 c0 c1 (abv (r : EReal)) = rat (v : EReal) c0 c1 (r : EReal) := by
  unfold act
  rw [tri_off v T hT, gau_off, lin_off, zero_add, zero_add, zero_add]
  unfold rat
  rw [abv_coe]
  by_cases h : (c0 = ⊥ ∨ c0 = ⊤) ∨ (c1 = ⊥ ∨ c1 = ⊤)
  · have ha : abv (((|r| : ℝ) : EReal) - ⊤) = ⊤ := abv_sub_inf _ _ (.inr rfl)
    have h1 : (1 : EReal) + ⊤ = ⊤ := EReal.add_top_of_ne_bot (by decide)
    have hdiv : ∀ x : EReal, Ideal.div x ⊤ = 0 := fun x => by unfold Ideal.div; rw [if_neg (by simp), EReal.inv_top, mul_zero]
    rw [dist_inf v c0 c1 h, ha, h1, EReal.top_mul_top, hdiv, hdiv, sub_zero]
  · push Not at h
    obtain ⟨⟨a, b⟩, c, d⟩ := h
    lift c0 to ℝ using ⟨b, a⟩
    lift c1 to ℝ using ⟨d, c⟩
    rw [dist_coe, ← EReal.coe_sub, abv_coe, ← EReal.coe_one, ← EReal.coe_sub, ← EReal.coe_add, ← EReal.coe_add, ← EReal.coe_mul,
      div_real _ _ (by positivity), div_real _ _ (by positivity), div_real _ _ (by positivity), ← EReal.coe_sub]
    congr 1
    have p1 : (1 : ℝ) + (|v - c0| + |v - c1|) ≠ 0 := by positivity
    have p2 : (1 : ℝ) + |(|r|) - (|v - c0| + |v - c1|)| ≠ 0 := by positivity
    field_simp
    ring

end Cert.Filt

end
-- ==== Proof.Consts.lean ====
/- The float words that occur in the two programs, as extended reals. -/
module

public import Idealize.ShloMosaic.PureOps.Ideal
public import Mathlib.Tactic.NormNum

@[expose] public section

noncomputable section

namespace Cert.Filt

open Idealize.ShloMosaic

/-- The word of `0`. -/
theorem word_zero : Ideal.ofBits .f32 0x00000000#32 = 0 := by
  simp [Ideal.ofBits, Ideal.ieee, -EReal.coe_mul]

/-- The word of `1`. -/
theorem word_one : Ideal.ofBits .f32 0x3F800000#32 = 1 := by
  simp [Ideal.ofBits, Ideal.ieee, -EReal.coe_mul]; norm_num

/-- The word of `50`. -/
theorem word_fifty : Ideal.ofBits .f32 0x42480000#32 = ((50 : ℝ) : EReal) := by
  simp [Ideal.ofBits, Ideal.ieee, -EReal.coe_mul]; norm_num

/-- The word of `100`. -/
theorem word_hundred : Ideal.ofBits .f32 0x42C80000#32 = ((100 : ℝ) : EReal) := by
  simp [Ideal.ofBits, Ideal.ieee, -EReal.coe_mul]; norm_num

/-- The word of `-50`. -/
theorem word_neg_fifty : Ideal.ofBits .f32 0xC2480000#32 = ((-50 : ℝ) : EReal) := by
  simp [Ideal.ofBits, Ideal.ieee, -EReal.coe_mul]; norm_num

/-- The word of minus infinity. -/
theorem word_bot : Ideal.ofBits .f32 0xFF800000#32 = ⊥ := by
  simp [Ideal.ofBits, Ideal.ieee]

/-- The word of plus infinity. -/
theorem word_top : Ideal.ofBits .f32 0x7F800000#32 = ⊤ := by
  simp [Ideal.ofBits, Ideal.ieee]

/-- The real number that the word of `-1e30` denotes. -/
def farPeak : ℝ := -(13234890 * 2 ^ 76)

/-- The peak of a column that has no triangle is not positive. -/
theorem farPeak_nonpos : farPeak ≤ 0 := by unfold farPeak; norm_num

/-- The word of `-1e30`. -/
theorem word_farPeak : Ideal.ofBits .f32 0xF149F2CA#32 = (farPeak : EReal) := by
  unfold farPeak
  simp [Ideal.ofBits, Ideal.ieee, -EReal.coe_mul, -EReal.coe_neg]

end Cert.Filt

end
-- ==== Proof.Block.lean ====
/- What the kernel computes in one block, entry by entry. -/
module

public import proofs.«01_k».proof.Proof.Gen.KernelIdeal.Skeleton
public import proofs.«01_k».proof.Proof.Coord
public import proofs.«01_k».proof.Proof.Consts
public import Idealize.ShloMosaic.Lib.MatmulPlain
public import Idealize.ShloMosaic.Lib.ValueIdx
public import Idealize.ShloMosaic.Lib.Pipeline.Value

@[expose] public section

noncomputable section

namespace Cert.Filt

open Idealize.ShloMosaic Idealize.ShloMosaic.ValueIdx Cert.KernelIdeal Cert.KernelIdeal.Gen

/-- A block's product with a square array, entry by entry. -/
theorem mm_apply (a : FVec Ideal S5000x128 .f32) (b : FVec Ideal S128x128 .f32) (r : Fin 5000) (k : Fin 128) :
    matmul dot_S5000x128_S128x128_S5000x128_1_0_0_1_n_n none a b (constant S5000x128 .f32 0#32) (ix2 r k)
      = ∑ d : Fin 128, a (ix2 r d) * b (ix2 d k) := by
  refine (Ideal.matmul_plain_apply none a b (constant S5000x128 .f32 0#32) r k).trans ?_
  show Ideal.ofBits .f32 0#32 + _ = _
  rw [word_zero, zero_add]

/-- A row repeated down a block, entry by entry. -/
theorem rep_apply (v : FVec Ideal S1x128 .f32) (r : Fin 5000) (k : Fin 128) :
    broadcastTo S5000x128 v broadcasts_S1x128_S5000x128 (ix2 r k) = v (ix2 0 k) :=
  broadcastTo_apply v broadcasts_S1x128_S5000x128 (ix2 r k) (ix2 0 k) (fun a => match a with | ⟨0, _⟩ => rfl | ⟨1, _⟩ => rfl)

/-- A recast of a row to its own shape is the row. -/
theorem cast1 (v : FVec Ideal S1x128 .f32) : shapeCast S1x128 v shapeCasts_S1x128_S1x128 = v :=
  funext fun j => shapeCast_apply v shapeCasts_S1x128_S1x128 j j rfl

/-- A recast of a square array to its own shape is the array. -/
theorem cast2 (v : FVec Ideal S128x128 .f32) : shapeCast S128x128 v shapeCasts_S128x128_S128x128 = v :=
  funext fun j => shapeCast_apply v shapeCasts_S128x128_S128x128 j j rfl

/-- The score the kernel computes for row `x`, with the second layer's column `w` and offset `b`. -/
def scoreK (x : Fin 128 → EReal) (W1 : Fin 128 → Fin 128 → EReal) (b1 w : Fin 128 → EReal) (b : EReal) : EReal :=
  (∑ h : Fin 128, max ((∑ d : Fin 128, x d * W1 d h) + b1 h) 0 * w h) + b

/-- The scores of a block. -/
theorem pay2_apply (x : FVec Ideal S5000x128 .f32) (W1 : FVec Ideal S128x128 .f32) (b1 : FVec Ideal S1x128 .f32)
    (W2 : FVec Ideal S128x128 .f32) (b2 : FVec Ideal S1x128 .f32) (r : Fin 5000) (k : Fin 128) :
    k0_pay2 (F := Ideal) x W1 b1 W2 b2 (ix2 r k)
      = scoreK (fun d => x (ix2 r d)) (fun d h => W1 (ix2 d h)) (fun h => b1 (ix2 0 h)) (fun h => W2 (ix2 h k)) (b2 (ix2 0 k)) := by
  unfold k0_pay2

  rw [cast1, cast1, cast2]
  refine congrArg₂ (· + ·) ((mm_apply _ W2 r k).trans (Finset.sum_congr rfl fun h _ => congrArg (· * W2 (ix2 h k)) ?_)) (rep_apply b2 r k)
  refine congrArg₂ max (congrArg₂ (· + ·) (mm_apply x W1 r h) (rep_apply b1 r h)) word_zero

/-- The activation columns of a block, weighted: the product of the row with the first weights plus the product of
    the activations with the second. -/
theorem pay10_apply (x v : FVec Ideal S5000x128 .f32) (tv gb gc lw lb c0 c1 ra : FVec Ideal S1x128 .f32)
    (w1 w2 : FVec Ideal S128x128 .f32) (r : Fin 5000) (o : Fin 128) :
    k0_pay10 (F := Ideal) x v (k0_pay3 tv) (k0_pay4 gb) (k0_pay5 gc) (k0_pay6 lw) (k0_pay7 lb) (k0_pay8 c0) (k0_pay9 c1) ra w1 w2 (ix2 r o)
      = (∑ d : Fin 128, x (ix2 r d) * w1 (ix2 d o))
        + ∑ k : Fin 128, act (v (ix2 r k)) (tv (ix2 0 k)) (gb (ix2 0 k)) (gc (ix2 0 k)) (lw (ix2 0 k)) (lb (ix2 0 k))
            (c0 (ix2 0 k)) (c1 (ix2 0 k)) (ra (ix2 0 k)) * w2 (ix2 k o) := by
  unfold k0_pay10 k0_pay3 k0_pay4 k0_pay5 k0_pay6 k0_pay7 k0_pay8 k0_pay9

  simp only [cast1, cast2]
  refine congrArg₂ (· + ·) (mm_apply x w1 r o) ((mm_apply _ w2 r o).trans (Finset.sum_congr rfl fun k _ => congrArg (· * w2 (ix2 k o)) ?_))
  unfold act dist
  rw [← rep_apply tv r k, ← rep_apply gb r k, ← rep_apply gc r k, ← rep_apply lw r k, ← rep_apply lb r k, ← rep_apply c0 r k,
    ← rep_apply c1 r k, ← rep_apply ra r k, ← word_hundred, ← word_zero, ← word_one]
  rfl

/-- The block's result. -/
theorem pay1_apply (y : FVec Ideal S5000x128 .f32) (b : FVec Ideal S1x128 .f32) (r : Fin 5000) (o : Fin 128) :
    k0_pay1 (F := Ideal) y b (ix2 r o) = max (y (ix2 r o) + b (ix2 0 o)) 0 := by
  unfold k0_pay1

  rw [cast1]
  exact congrArg₂ max (congrArg (y (ix2 r o) + ·) (rep_apply b r o)) word_zero

end Cert.Filt

end
-- ==== Proof.Array.lean ====
/- What the kernel's output array holds after the run, entry by entry, over the arrays the launch finds. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.Filt

open Idealize.ShloMosaic hiding ix1 ix2 ix3
open Idealize.ShloMosaic.TcCoe Idealize.ShloMosaic.ValueIdx Cert.KernelIdeal Cert.KernelIdeal.Gen

/-- The kernel's result for the row `x` at output column `o`, over the staged arrays. -/
def outK (x : Fin 128 → EReal) (W1 : FVec Ideal S128x128 .f32) (b1 : FVec Ideal S1x128 .f32) (W2 : FVec Ideal S128x128 .f32)
    (b2 : FVec Ideal S1x128 .f32) (w1 w2 : FVec Ideal S128x128 .f32) (ob : FVec Ideal S1x128 .f32) (P : FVec Ideal S8x128 .f32)
    (o : Fin 128) : EReal :=
  max (((∑ d : Fin 128, x d * w1 (ix2 d o))
    + ∑ k : Fin 128, act (scoreK x (fun d h => W1 (ix2 d h)) (fun h => b1 (ix2 0 h)) (fun h => W2 (ix2 h k)) (b2 (ix2 0 k)))
        (P (ix2 0 k)) (P (ix2 1 k)) (P (ix2 2 k)) (P (ix2 3 k)) (P (ix2 4 k)) (P (ix2 5 k)) (P (ix2 6 k)) (P (ix2 7 k)) * w2 (ix2 k o))
    + ob (ix2 0 o)) 0

theorem zeros2 : (![0, 0] : Fin 2 → ℕ) = fun _ => 0 := funext fun a => by fin_cases a <;> rfl

/-- A row of the parameter array, loaded. -/
theorem ld_row (X : FVec Ideal S8x128 .f32) (p : Fin 8) (inb) (k : Fin 128) :
    View.ld (Val := Elt Ideal) (e' := .f32) X (Rect.unit (s := S8x128) ![p.val, 0] S1x128.size inb) (ix2 0 k) = X (ix2 p k) := by
  rw [View.ld_unit]
  exact extractStridedSlice_apply _ X _ _ (ix2 p k) (fun a => match a with | ⟨0, _⟩ => rfl | ⟨1, _⟩ => (Nat.zero_add _).symm)

/-- What the body leaves at an entry of its block. -/
theorem out_apply (x0 : FVec Ideal S5000x128 .f32) (x1 : FVec Ideal S128x128 .f32) (x2 : FVec Ideal S1x128 .f32)
    (x3 : FVec Ideal S128x128 .f32) (x4 : FVec Ideal S1x128 .f32) (x5 x6 : FVec Ideal S128x128 .f32) (x7 : FVec Ideal S1x128 .f32)
    (x8 : FVec Ideal S8x128 .f32) (r : Fin 5000) (o : Fin 128) :
    out0_9 (F := Ideal) x0 x1 x2 x3 x4 x5 x6 x7 x8 (ix2 r o) = outK (fun d => x0 (ix2 r d)) x1 x2 x3 x4 x5 x6 x7 x8 o := by
  unfold out0_9
  rw [View.canon_unit_zero zeros2, View.ld_unit_zero zeros2, View.ld_unit_zero zeros2, View.ld_unit_zero zeros2,
    View.ld_unit_zero zeros2, View.ld_unit_zero zeros2, View.ld_unit_zero zeros2, View.ld_unit_zero zeros2, View.ld_unit_zero zeros2,
    pay1_apply, pay10_apply]
  unfold outK
  refine congrArg (fun s => max (((∑ d : Fin 128, x0 (ix2 r d) * x5 (ix2 d o)) + s) + x7 (ix2 0 o)) 0) (Finset.sum_congr rfl fun k _ => congrArg (· * x6 (ix2 k o)) ?_)
  rw [pay2_apply]
  exact congr (congr (congr (congr (congr (congr (congr (congrArg (act _) (ld_row x8 0 _ k)) (ld_row x8 1 _ k)) (ld_row x8 2 _ k)) (ld_row x8 3 _ k))
    (ld_row x8 4 _ k)) (ld_row x8 5 _ k)) (ld_row x8 6 _ k)) (ld_row x8 7 _ k)

variable (m : (ℓ : Loc nD τ sig) → Buf (Elt Ideal) ℓ) (c : Dev nD)

/-- The staged arrays' blocks sit at block index zero, the row blocks one after the other. -/
theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)

theorem blk1 (t : Fin cfg0.N) : iblk m c 1 t = V m c main_arg3 := by funext y; blk_ext [iblk, at1]
theorem blk2 (t : Fin cfg0.N) : iblk m c 2 t = V m c main_call0_v156 := by funext y; blk_ext [iblk, at2]
theorem blk3 (t : Fin cfg0.N) : iblk m c 3 t = V m c main_call0_v2 := by funext y; blk_ext [iblk, at3]
theorem blk4 (t : Fin cfg0.N) : iblk m c 4 t = V m c main_call0_v6 := by funext y; blk_ext [iblk, at4]
theorem blk5 (t : Fin cfg0.N) : iblk m c 5 t = V m c main_call0_v153 := by funext y; blk_ext [iblk, at5]
theorem blk6 (t : Fin cfg0.N) : iblk m c 6 t = V m c main_call0_v155 := by funext y; blk_ext [iblk, at6]
theorem blk7 (t : Fin cfg0.N) : iblk m c 7 t = V m c main_call0_v157 := by funext y; blk_ext [iblk, at7]
theorem blk8 (t : Fin cfg0.N) : iblk m c 8 t = V m c main_call0_v152 := by funext y; blk_ext [iblk, at8]

/-- What the output array holds after the run, over the arrays the launch finds. -/
def outArr (c : Dev nD) : FVec Ideal S50000x128 .f32 := fun i =>
  outK (fun d => (V m c main_arg0 : FVec Ideal S50000x128 .f32) (ix2 (i 0) d)) (V m c main_arg3) (V m c main_call0_v156) (V m c main_call0_v2)
    (V m c main_call0_v6) (V m c main_call0_v153) (V m c main_call0_v155) (V m c main_call0_v157) (V m c main_call0_v152) (i 1)

/-- The output array after the run. -/
theorem arr_eq : (dats m 0 c).arrAt 9 cfg0.N = outArr m c := by
  refine (dats m 0 c).arrAt_eq_of_covers 9 _ (by decide +kernel) fun t hf y => ?_
  blk_simp
  rw [after0_9, blk1, blk2, blk3, blk4, blk5, blk6, blk7, blk8]
  obtain ⟨r, o, rfl⟩ : ∃ (r : Fin 5000) (o : Fin 128), y = ix2 r o := ⟨y 0, y 1, ValueIdx.eq_ix2 y⟩
  refine (out_apply _ _ _ _ _ _ _ _ _ r o).trans ?_
  unfold outArr
  refine congrArg₂ (fun x o => outK x (V m c main_arg3) (V m c main_call0_v156) (V m c main_call0_v2)
    (V m c main_call0_v6) (V m c main_call0_v153) (V m c main_call0_v155) (V m c main_call0_v157) (V m c main_call0_v152) o) (funext fun d => ?_) (Fin.ext ?_)
  · show V m c main_arg0 (((cfg0.win 0).blk t).view.emb (ix2 r d)) = V m c main_arg0 _
    refine congrArg (V m c main_arg0) (funext fun a => Fin.ext ?_)
    match a with
    | ⟨0, _⟩ =>
      show win0_0.index t (0 : Fin 2) * 5000 + 1 * r.val = win0_9.index t (0 : Fin 2) * 5000 + 1 * r.val
      rw [at0, at9]
    | ⟨1, _⟩ =>
      show win0_0.index t (1 : Fin 2) * 128 + 1 * d.val = d.val
      rw [at0]
      show 0 * 128 + 1 * d.val = d.val
      omega
  · blk_simp [at9]

end Cert.Filt

end
-- ==== Proof.Column.lean ====
/- The activation columns: what the kernel's parameter rows say in each lane, and that a lane computes its coordinate
   function. -/
module

public import proofs.«01_k».proof.Proof.Reads
public import proofs.«01_k».proof.Proof.Coord
public import proofs.«01_k».proof.Proof.Consts

@[expose] public section

noncomputable section

namespace Cert.Filt

open Idealize.ShloMosaic Idealize.ShloMosaic.ValueIdx Cert.KernelIdeal Cert.KernelIdeal.Gen

/-- The activation of kind `p` with the `q`-th parameters at the score `v`: triangle, Gaussian, line, rational hat. -/
def column (t : Fin 3 → EReal) (mu : Fin 3 → Fin 2 → EReal) (lW : Fin 2 → Fin 3 → EReal) (lB : Fin 3 → EReal)
    (cp : Fin 3 → Fin 2 → EReal) (r : EReal) (p : Fin 4) (q : Fin 3) (v : EReal) : EReal :=
  match p with
  | 0 => tri v (t q)
  | 1 => gau v (mu q 0) (mu q 1)
  | 2 => lin v (lW 0 q) (lW 1 q) (lB q)
  | 3 => rat v (cp q 0) (cp q 1) r

/-! ## The vectors of three, entry by entry -/

theorem const3_apply (w : BitVec 32) (q : Fin 3) : const3 w (ix1 q) = Ideal.ofBits .f32 w := rfl

theorem colA_apply (x : FVec Ideal S3x2 .f32) (q : Fin 3) : colA x (ix1 q) = x (ix2 q 0) := by
  unfold colA
  rw [shapeCast_apply _ shapeCasts_S3x1_S3 _ (ix2 q 0)
      (by rw [Shape.rowMajor_val_one, Shape.rowMajor_val_two]
          show q.val * 1 + 0 = q.val
          omega),
    extractStridedSlice_apply _ x slices_S3x2_S3x1_0_0 _ (ix2 q 0)
      (fun a => match a with | ⟨0, _⟩ => (Nat.zero_add _).symm | ⟨1, _⟩ => rfl)]

theorem colB_apply (x : FVec Ideal S3x2 .f32) (q : Fin 3) : colB x (ix1 q) = x (ix2 q 1) := by
  unfold colB
  rw [shapeCast_apply _ shapeCasts_S3x1_S3 _ (ix2 q 0)
      (by rw [Shape.rowMajor_val_one, Shape.rowMajor_val_two]
          show q.val * 1 + 0 = q.val
          omega),
    extractStridedSlice_apply _ x slices_S3x2_S3x1_0_1 _ (ix2 q 1)
      (fun a => match a with | ⟨0, _⟩ => (Nat.zero_add _).symm | ⟨1, _⟩ => rfl)]

theorem rowOf_apply (x : FVec Ideal S2x3 .f32) (i : Fin 2) (h : S2x3.Slices ![i.val, 0] S1x3) (q : Fin 3) :
    shapeCast S3 (extractStridedSlice S1x3 ![i.val, 0] x h) shapeCasts_S1x3_S3 (ix1 q) = x (ix2 i q) := by
  rw [shapeCast_apply _ shapeCasts_S1x3_S3 _ (ix2 0 q)
      (by rw [Shape.rowMajor_val_one, Shape.rowMajor_val_two]
          show 0 * 3 + q.val = q.val
          omega),
    extractStridedSlice_apply _ x h _ (ix2 i q)
      (fun a => match a with | ⟨0, _⟩ => rfl | ⟨1, _⟩ => (Nat.zero_add _).symm)]

theorem rowSum_apply (x : FVec Ideal S2x3 .f32) (q : Fin 3) : rowSum x (ix1 q) = x (ix2 0 q) + x (ix2 1 q) :=
  congrArg₂ (· + ·) (rowOf_apply x 0 slices_S2x3_S1x3_0_0 q) (rowOf_apply x 1 slices_S2x3_S1x3_1_0 q)

theorem gbV_apply (mu : FVec Ideal S3x2 .f32) (q : Fin 3) :
    gbV mu (ix1 q) = ((100 : ℝ) : EReal) * (mu (ix2 q 0) + mu (ix2 q 1)) :=
  congrArg₂ (· * ·) word_hundred (congrArg₂ (· + ·) (colA_apply mu q) (colB_apply mu q))

theorem gcV_apply (mu : FVec Ideal S3x2 .f32) (q : Fin 3) :
    gcV mu (ix1 q) = ((-50 : ℝ) : EReal) * (mu (ix2 q 0) * mu (ix2 q 0) + mu (ix2 q 1) * mu (ix2 q 1)) :=
  congrArg₂ (· * ·) word_neg_fifty
    (congrArg₂ (· + ·) (congrArg₂ (· * ·) (colA_apply mu q) (colA_apply mu q)) (congrArg₂ (· * ·) (colB_apply mu q) (colB_apply mu q)))

theorem raV_apply (r : FVec Ideal S1 .f32) (q : Fin 3) : raV r (ix1 q) = abv (r (ix1 0)) := by
  rw [← show shapeCast S_ r shapeCasts_S1_S_ ix0 = r (ix1 0) from shapeCast_apply r shapeCasts_S1_S_ ix0 (ix1 0) rfl]
  unfold raV
  rw [broadcastInDim_apply _ bcast_S_S3 _ _ ix0 (fun a => a.elim0)]
  rfl

/-! ## The parameter rows -/

section
variable (t : FVec Ideal S3 .f32) (mu : FVec Ideal S3x2 .f32) (lW : FVec Ideal S2x3 .f32) (lB : FVec Ideal S3 .f32)
  (cp : FVec Ideal S3x2 .f32) (r : FVec Ideal S1 .f32)

/-- The four vectors of each parameter row. -/
def pieces : Fin 8 → Fin 4 → FVec Ideal S3 .f32 :=
  let z := const3 0#32
  ![![t, const3 0xF149F2CA#32, const3 0xF149F2CA#32, const3 0xF149F2CA#32],
    ![z, gbV mu, z, z],
    ![const3 0xFF800000#32, gcV mu, const3 0xFF800000#32, const3 0xFF800000#32],
    ![z, z, rowSum lW, z],
    ![z, z, lB, z],
    ![z, z, z, colA cp],
    ![z, z, z, colB cp],
    ![z, z, z, raV r]]

/-- A parameter row at lane `12 f + 3 p + q` is entry `q` of its `p`-th vector. -/
theorem params_apply (i : Fin 8) (f : Fin 8) (p : Fin 4) (q : Fin 3) (k : Fin 128)
    (hk : k.val = 12 * f.val + (3 * p.val + q.val)) :
    params t mu lW lB cp r i (ix2 0 k) = pieces t mu lW lB cp r i p (ix1 q) := by
  have e : k = ⟨12 * f.val + (3 * p.val + q.val), by omega⟩ := Fin.ext hk
  rw [e]
  match i with
  | 0 => exact row_apply _ _ (pieces t mu lW lB cp r 0) f p q
  | 1 => exact row_apply _ _ (pieces t mu lW lB cp r 1) f p q
  | 2 => exact row_apply _ _ (pieces t mu lW lB cp r 2) f p q
  | 3 => exact row_apply _ _ (pieces t mu lW lB cp r 3) f p q
  | 4 => exact row_apply _ _ (pieces t mu lW lB cp r 4) f p q
  | 5 => exact row_apply _ _ (pieces t mu lW lB cp r 5) f p q
  | 6 => exact row_apply _ _ (pieces t mu lW lB cp r 6) f p q
  | 7 => exact row_apply _ _ (pieces t mu lW lB cp r 7) f p q

/-- A row of the stacked parameter array. -/
theorem stack_apply (u : Fin 8 → FVec Ideal S1x128 .f32) (i : Fin 8) (k : Fin 128) : stack u (ix2 i k) = u i (ix2 0 k) :=
  concatenate_ofFn_unit_apply (t := S8x128) (s₁ := S1x128) 0 u
    concatenates_S1x128_S1x128_S1x128_S1x128_S1x128_S1x128_S1x128_S1x128_S8x128_d0 rfl rfl (ix2 i k) i rfl (ix2 0 k)
    (fun b hb => match b with | ⟨0, _⟩ => absurd rfl hb | ⟨1, _⟩ => rfl)

/-- Lane `12 f + 3 p + q` computes the activation of kind `p` with the `q`-th parameters, at a real score, where the
    line weights and the radius are real. -/
theorem act_lane (v : ℝ) (hlW : ∀ i q, ∃ w : ℝ, lW (ix2 i q) = (w : EReal)) (hr : ∃ w : ℝ, r (ix1 0) = (w : EReal))
    (f : Fin 8) (p : Fin 4) (q : Fin 3) (k : Fin 128) (hk : k.val = 12 * f.val + (3 * p.val + q.val)) :
    act (v : EReal) (stack (params t mu lW lB cp r) (ix2 0 k)) (stack (params t mu lW lB cp r) (ix2 1 k))
        (stack (params t mu lW lB cp r) (ix2 2 k)) (stack (params t mu lW lB cp r) (ix2 3 k))
        (stack (params t mu lW lB cp r) (ix2 4 k)) (stack (params t mu lW lB cp r) (ix2 5 k))
        (stack (params t mu lW lB cp r) (ix2 6 k)) (stack (params t mu lW lB cp r) (ix2 7 k))
      = column (fun q => t (ix1 q)) (fun q i => mu (ix2 q i)) (fun i q => lW (ix2 i q)) (fun q => lB (ix1 q))
          (fun q i => cp (ix2 q i)) (r (ix1 0)) p q v := by
  simp only [stack_apply, params_apply t mu lW lB cp r _ f p q k hk]
  have z : const3 0#32 (ix1 q) = (0 : EReal) := word_zero
  have b : const3 0xFF800000#32 (ix1 q) = (⊥ : EReal) := word_bot
  have T : const3 0xF149F2CA#32 (ix1 q) = (farPeak : EReal) := word_farPeak
  match p with
  | 0 =>
    show act (v : EReal) (t (ix1 q)) (const3 0#32 (ix1 q)) (const3 0xFF800000#32 (ix1 q)) (const3 0#32 (ix1 q)) (const3 0#32 (ix1 q))
      (const3 0#32 (ix1 q)) (const3 0#32 (ix1 q)) (const3 0#32 (ix1 q)) = tri v (t (ix1 q))
    rw [z, b]
    exact act_tri v _
  | 1 =>
    show act (v : EReal) (const3 0xF149F2CA#32 (ix1 q)) (gbV mu (ix1 q)) (gcV mu (ix1 q)) (const3 0#32 (ix1 q)) (const3 0#32 (ix1 q))
      (const3 0#32 (ix1 q)) (const3 0#32 (ix1 q)) (const3 0#32 (ix1 q)) = gau v (mu (ix2 q 0)) (mu (ix2 q 1))
    rw [z, T, gbV_apply, gcV_apply]
    exact act_gau v farPeak farPeak_nonpos _ _
  | 2 =>
    show act (v : EReal) (const3 0xF149F2CA#32 (ix1 q)) (const3 0#32 (ix1 q)) (const3 0xFF800000#32 (ix1 q)) (rowSum lW (ix1 q)) (lB (ix1 q))
      (const3 0#32 (ix1 q)) (const3 0#32 (ix1 q)) (const3 0#32 (ix1 q)) = lin v (lW (ix2 0 q)) (lW (ix2 1 q)) (lB (ix1 q))
    obtain ⟨w0, h0⟩ := hlW 0 q
    obtain ⟨w1, h1⟩ := hlW 1 q
    rw [z, b, T, rowSum_apply, h0, h1]
    exact act_lin v farPeak w0 w1 farPeak_nonpos _
  | 3 =>
    show act (v : EReal) (const3 0xF149F2CA#32 (ix1 q)) (const3 0#32 (ix1 q)) (const3 0xFF800000#32 (ix1 q)) (const3 0#32 (ix1 q)) (const3 0#32 (ix1 q))
      (colA cp (ix1 q)) (colB cp (ix1 q)) (raV r (ix1 q)) = rat v (cp (ix2 q 0)) (cp (ix2 q 1)) (r (ix1 0))
    obtain ⟨w, h⟩ := hr
    rw [z, b, T, colA_apply, colB_apply, raV_apply, h]
    exact act_rat v farPeak w farPeak_nonpos _ _

end

/-! ## The other staged arrays, entry by entry -/

theorem padZero_apply (i : S_.Idx) : padZero i = (0 : EReal) := by
  show (((0#32 : BitVec 32).toInt : ℝ) : EReal) = 0
  simp

/-- Column `12 f + c` of the repeated weights is column `f`. -/
theorem w2R_apply (w : FVec Ideal S128x8 .f32) (h : Fin 128) (f : Fin 8) (c : Fin 12) (k : Fin 128) (hk : k.val = 12 * f.val + c.val) :
    w2R w (ix2 h k) = w (ix2 h f) := by
  unfold w2R
  have hk' : k.val < 96 := by omega
  rw [pad_apply_of_inside ![0, 0] ![0, 32] ![0, 0] _ _ pads_S128x96_S128x128_000_0320 h_S_ _ (ix2 h ⟨k.val, hk'⟩)
      (fun b => match b with
        | ⟨0, _⟩ => by show h.val = 0 + h.val * (0 + 1); omega
        | ⟨1, _⟩ => by show k.val = 0 + k.val * (0 + 1); omega),
    shapeCast_apply _ shapeCasts_S128x8x12_S128x96 _ (ix3 h f c)
      (by rw [Shape.rowMajor_val_two, Shape.rowMajor_val_three]
          show (h.val * 8 + f.val) * 12 + c.val = h.val * 96 + k.val
          omega),
    broadcastInDim_apply _ bcast_S128x8_S128x8x12_0_1 _ _ (ix2 h f) (fun a => match a with | ⟨0, _⟩ => rfl | ⟨1, _⟩ => rfl)]

/-- Lane `12 f + c` of the repeated offsets is entry `f`. -/
theorem b2R_apply (b : FVec Ideal S8 .f32) (f : Fin 8) (c : Fin 12) (k : Fin 128) (hk : k.val = 12 * f.val + c.val) :
    b2R b (ix2 0 k) = b (ix1 f) := by
  unfold b2R
  have hk' : k.val < 96 := by omega
  rw [shapeCast_apply _ shapeCasts_S128_S1x128 _ (ix1 k)
      (by rw [Shape.rowMajor_val_one, Shape.rowMajor_val_two]
          show k.val = 0 * 128 + k.val
          omega),
    pad_apply_of_inside ![0] ![32] ![0] _ _ pads_S96_S128_0320 h_S_ _ (ix1 ⟨k.val, hk'⟩)
      (fun b => match b with | ⟨0, _⟩ => by show k.val = 0 + k.val * (0 + 1); omega),
    shapeCast_apply _ shapeCasts_S8x12_S96 _ (ix2 f c)
      (by rw [Shape.rowMajor_val_one, Shape.rowMajor_val_two]
          show f.val * 12 + c.val = k.val
          omega),
    broadcastInDim_apply _ bcast_S8_S8x12_0 _ _ (ix1 f) (fun a => match a with | ⟨0, _⟩ => rfl)]

theorem top128_apply (w : FVec Ideal S224x128 .f32) (d o : Fin 128) : top128 w (ix2 d o) = w (ix2 ⟨d.val, by omega⟩ o) :=
  extractStridedSlice_apply _ w slices_S224x128_S128x128_0_0 _ _ (fun a => match a with
    | ⟨0, _⟩ => (Nat.zero_add _).symm | ⟨1, _⟩ => (Nat.zero_add _).symm)

theorem last96_apply (w : FVec Ideal S224x128 .f32) (k o : Fin 128) (hk : k.val < 96) :
    last96 w (ix2 k o) = w (ix2 ⟨128 + k.val, by omega⟩ o) := by
  unfold last96
  rw [pad_apply_of_inside ![0, 0] ![32, 0] ![0, 0] _ _ pads_S96x128_S128x128_0320_000 h_S_ _ (ix2 ⟨k.val, hk⟩ o)
      (fun b => match b with
        | ⟨0, _⟩ => by show k.val = 0 + k.val * (0 + 1); omega
        | ⟨1, _⟩ => by show o.val = 0 + o.val * (0 + 1); omega),
    extractStridedSlice_apply _ w slices_S224x128_S96x128_128_0 _ (ix2 ⟨128 + k.val, by omega⟩ o)
      (fun a => match a with | ⟨0, _⟩ => rfl | ⟨1, _⟩ => (Nat.zero_add _).symm)]

theorem last96_pad (w : FVec Ideal S224x128 .f32) (k o : Fin 128) (hk : 96 ≤ k.val) : last96 w (ix2 k o) = (0 : EReal) := by
  unfold last96
  refine (pad_apply_of_not_inside (s := S96x128) (t := S128x128) ![0, 0] ![32, 0] ![0, 0] _ _ pads_S96x128_S128x128_0320_000 h_S_ (ix2 k o) (0 : Fin 2) ?_).trans (padZero_apply _)
  rintro ⟨_, _, h⟩
  have h' : (k.val - 0) / (0 + 1) < 96 := h
  omega

theorem asRow_apply (b : FVec Ideal S128 .f32) (k : Fin 128) : asRow b (ix2 0 k) = b (ix1 k) :=
  shapeCast_apply b shapeCasts_S128_S1x128 _ _
    (by rw [Shape.rowMajor_val_one, Shape.rowMajor_val_two]
        show k.val = 0 * 128 + k.val
        omega)

end Cert.Filt

end
-- ==== Proof.RefColumns.lean ====
/- The reference's four coordinate functions as its operations write them, over the array of pairs they are applied to, and
   what each says at one entry. -/
module

public import proofs.«01_k».proof.Proof.Gen.ReferenceIdeal.Read
public import proofs.«01_k».proof.Proof.Column

@[expose] public section

noncomputable section

namespace Cert.Filt.Ref

open Idealize.ShloMosaic Idealize.ShloMosaic.ValueIdx Cert.ReferenceIdeal Cert.ReferenceIdeal.Gen

/-! ## Repeated arrays -/

/-- The second entries of the pairs, three times. -/
def deaths (P : FVec Ideal S50000x2 .f32) : FVec Ideal S50000x3 .f32 :=
  broadcastInDim S50000x3 ![0, 1] bcast_S50000x1_S50000x3_0_1
    (broadcastInDim S50000x1 ![0] bcast_S50000_S50000x1_0
      (shapeCast S50000 (extractStridedSlice S50000x1 ![0, 1] P slices_S50000x2_S50000x1_0_1) shapeCasts_S50000x1_S50000))

/-- The first entries of the pairs, three times. -/
def births (P : FVec Ideal S50000x2 .f32) : FVec Ideal S50000x3 .f32 :=
  broadcastInDim S50000x3 ![0, 1] bcast_S50000x1_S50000x3_0_1
    (broadcastInDim S50000x1 ![0] bcast_S50000_S50000x1_0
      (shapeCast S50000 (extractStridedSlice S50000x1 ![0, 0] P slices_S50000x2_S50000x1_0_0) shapeCasts_S50000x1_S50000))

/-- A row of three in every row. -/
def rows (x : FVec Ideal S3 .f32) : FVec Ideal S50000x3 .f32 :=
  broadcastInDim S50000x3 ![0, 1] bcast_S1x3_S50000x3_0_1 (broadcastInDim S1x3 ![1] bcast_S3_S1x3_1 x)

/-- One value everywhere. -/
def all (w : BitVec 32) : FVec Ideal S50000x3 .f32 := broadcastInDim S50000x3 ![] bcast_S_S50000x3 (constant S_ .f32 w)

/-- Each pair minus each centre. -/
def gaps (P : FVec Ideal S50000x2 .f32) (c : FVec Ideal S3x2 .f32) : FVec Ideal S50000x3x2 .f32 :=
  subf
    (broadcastInDim S50000x3x2 ![0, 1, 2] bcast_S50000x1x2_S50000x3x2_0_1_2
      (broadcastInDim S50000x1x2 ![0, 2] bcast_S50000x2_S50000x1x2_0_2 P))
    (broadcastInDim S50000x3x2 ![0, 1, 2] bcast_S1x3x2_S50000x3x2_0_1_2
      (broadcastInDim S1x3x2 ![1, 2] bcast_S3x2_S1x3x2_1_2 c))

/-- The sum over the two entries of a pair. -/
def pairSum (x : FVec Ideal S50000x3x2 .f32) : FVec Ideal S50000x3 .f32 :=
  Host.reduceAdd x (constant S_ .f32 0x00000000#32) reducesTo_S50000x3x2_S50000x3_d2 h_S_

/-- The distances of the pairs from the centres. -/
def dists (P : FVec Ideal S50000x2 .f32) (c : FVec Ideal S3x2 .f32) : FVec Ideal S50000x3 .f32 :=
  pairSum (Host.absf (gaps P c))

/-- The magnitude of the radius, everywhere. -/
def radius (r : FVec Ideal S1 .f32) : FVec Ideal S50000x3 .f32 :=
  broadcastInDim S50000x3 ![0, 1] bcast_S1x1_S50000x3_0_1 (broadcastInDim S1x1 ![1] bcast_S1_S1x1_1 (Host.absf r))

/-! ## The four functions and their concatenation -/

/-- The triangle functions of the pairs. -/
def triA (P : FVec Ideal S50000x2 .f32) (t : FVec Ideal S3 .f32) : FVec Ideal S50000x3 .f32 :=
  maximumf (subf (deaths P) (Host.absf (subf (births P) (rows t)))) (all 0x00000000#32)

/-- The Gaussian functions of the pairs. -/
def gauA (P : FVec Ideal S50000x2 .f32) (mu : FVec Ideal S3x2 .f32) : FVec Ideal S50000x3 .f32 :=
  Host.exp (mulf (Host.negf (pairSum (mulf (gaps P mu) (gaps P mu)))) (all 0x42480000#32))

/-- The line functions of the pairs. -/
def linA (P : FVec Ideal S50000x2 .f32) (w : FVec Ideal S2x3 .f32) (b : FVec Ideal S3 .f32) : FVec Ideal S50000x3 .f32 :=
  addf (Host.dotGeneral dot_S50000x2_S2x3_S50000x3_1_0_0_1_n_n none P w) (rows b)

/-- The rational hat functions of the pairs. -/
def ratA (P : FVec Ideal S50000x2 .f32) (cp : FVec Ideal S3x2 .f32) (r : FVec Ideal S1 .f32) : FVec Ideal S50000x3 .f32 :=
  subf (Host.divf (all 0x3F800000#32) (addf (all 0x3F800000#32) (dists P cp)))
    (Host.divf (all 0x3F800000#32) (addf (all 0x3F800000#32) (Host.absf (subf (radius r) (dists P cp)))))

/-- The twelve coordinate functions of the pairs, side by side. -/
def coords (P : FVec Ideal S50000x2 .f32) (t : FVec Ideal S3 .f32) (mu : FVec Ideal S3x2 .f32) (w : FVec Ideal S2x3 .f32)
    (b : FVec Ideal S3 .f32) (cp : FVec Ideal S3x2 .f32) (r : FVec Ideal S1 .f32) : FVec Ideal S50000x12 .f32 :=
  concatenate S50000x12 1 [⟨S50000x3, triA P t⟩, ⟨S50000x3, gauA P mu⟩, ⟨S50000x3, linA P w b⟩, ⟨S50000x3, ratA P cp r⟩]
    concatenates_S50000x3_S50000x3_S50000x3_S50000x3_S50000x12_d1

/-! ## Entries of the repeated arrays -/

theorem column_spread (x : FVec Ideal S50000 .f32) (n : Fin 50000) (q : Fin 3) :
    broadcastInDim S50000x3 ![0, 1] bcast_S50000x1_S50000x3_0_1 (broadcastInDim S50000x1 ![0] bcast_S50000_S50000x1_0 x) (ix2 n q)
      = x (ix1 n) := by
  rw [broadcastInDim_apply _ bcast_S50000x1_S50000x3_0_1 _ _ (ix2 n 0) (fun a => match a with | ⟨0, _⟩ => rfl | ⟨1, _⟩ => rfl),
    broadcastInDim_apply _ bcast_S50000_S50000x1_0 _ _ (ix1 n) (fun a => match a with | ⟨0, _⟩ => rfl)]

theorem column_flat (x : FVec Ideal S50000x1 .f32) (n : Fin 50000) : shapeCast S50000 x shapeCasts_S50000x1_S50000 (ix1 n) = x (ix2 n 0) :=
  shapeCast_apply x shapeCasts_S50000x1_S50000 _ (ix2 n 0)
    (by rw [Shape.rowMajor_val_two, Shape.rowMajor_val_one]
        show n.val * 1 + 0 = n.val
        omega)

theorem deaths_apply (P : FVec Ideal S50000x2 .f32) (n : Fin 50000) (q : Fin 3) : deaths P (ix2 n q) = P (ix2 n 1) := by
  unfold deaths
  rw [column_spread, column_flat]
  exact extractStridedSlice_apply _ P slices_S50000x2_S50000x1_0_1 _ (ix2 n 1)
    (fun a => match a with | ⟨0, _⟩ => (Nat.zero_add _).symm | ⟨1, _⟩ => rfl)

theorem births_apply (P : FVec Ideal S50000x2 .f32) (n : Fin 50000) (q : Fin 3) : births P (ix2 n q) = P (ix2 n 0) := by
  unfold births
  rw [column_spread, column_flat]
  exact extractStridedSlice_apply _ P slices_S50000x2_S50000x1_0_0 _ (ix2 n 0)
    (fun a => match a with | ⟨0, _⟩ => (Nat.zero_add _).symm | ⟨1, _⟩ => rfl)

theorem rows_apply (x : FVec Ideal S3 .f32) (n : Fin 50000) (q : Fin 3) : rows x (ix2 n q) = x (ix1 q) := by
  unfold rows
  rw [broadcastInDim_apply _ bcast_S1x3_S50000x3_0_1 _ _ (ix2 0 q) (fun a => match a with | ⟨0, _⟩ => rfl | ⟨1, _⟩ => rfl),
    broadcastInDim_apply _ bcast_S3_S1x3_1 _ _ (ix1 q) (fun a => match a with | ⟨0, _⟩ => rfl)]

theorem all_apply (w : BitVec 32) (n : Fin 50000) (q : Fin 3) : all w (ix2 n q) = Ideal.ofBits .f32 w := rfl

theorem gaps_apply (P : FVec Ideal S50000x2 .f32) (c : FVec Ideal S3x2 .f32) (n : Fin 50000) (q : Fin 3) (i : Fin 2) :
    gaps P c (ix3 n q i) = P (ix2 n i) - c (ix2 q i) := by
  have e1 : broadcastInDim S50000x3x2 ![0, 1, 2] bcast_S50000x1x2_S50000x3x2_0_1_2
      (broadcastInDim S50000x1x2 ![0, 2] bcast_S50000x2_S50000x1x2_0_2 P) (ix3 n q i) = P (ix2 n i) := by
    rw [broadcastInDim_apply _ bcast_S50000x1x2_S50000x3x2_0_1_2 _ _ (ix3 n 0 i)
        (fun a => match a with | ⟨0, _⟩ => rfl | ⟨1, _⟩ => rfl | ⟨2, _⟩ => rfl),
      broadcastInDim_apply _ bcast_S50000x2_S50000x1x2_0_2 _ _ (ix2 n i) (fun a => match a with | ⟨0, _⟩ => rfl | ⟨1, _⟩ => rfl)]
  have e2 : broadcastInDim S50000x3x2 ![0, 1, 2] bcast_S1x3x2_S50000x3x2_0_1_2
      (broadcastInDim S1x3x2 ![1, 2] bcast_S3x2_S1x3x2_1_2 c) (ix3 n q i) = c (ix2 q i) := by
    rw [broadcastInDim_apply _ bcast_S1x3x2_S50000x3x2_0_1_2 _ _ (ix3 0 q i)
        (fun a => match a with | ⟨0, _⟩ => rfl | ⟨1, _⟩ => rfl | ⟨2, _⟩ => rfl),
      broadcastInDim_apply _ bcast_S3x2_S1x3x2_1_2 _ _ (ix2 q i) (fun a => match a with | ⟨0, _⟩ => rfl | ⟨1, _⟩ => rfl)]
  exact congrArg₂ (· - ·) e1 e2

theorem pairSum_apply (x : FVec Ideal S50000x3x2 .f32) (n : Fin 50000) (q : Fin 3) :
    pairSum x (ix2 n q) = x (ix3 n q 0) + x (ix3 n q 1) := by
  have lifted : ∀ k : Fin 2, (show S50000x3x2.Reduces [2] S50000x3 by decide).lift (ix2 n q) k = ix3 n q k := fun k =>
    funext fun a => Fin.ext (by match a with | ⟨0, _⟩ => rfl | ⟨1, _⟩ => rfl | ⟨2, _⟩ => rfl)
  have h := Ideal.hostReduceAdd_single reducesTo_S50000x3x2_S50000x3_d2 (by decide) x (Ideal.ofBits .f32 0x00000000#32) (ix2 n q)
  rw [word_zero, zero_add] at h
  refine Eq.trans ?_ (h.trans ((Fin.sum_univ_two _).trans (congrArg₂ (· + ·) (congrArg x (lifted 0)) (congrArg x (lifted 1)))))
  rw [← word_zero]
  rfl

theorem radius_apply (r : FVec Ideal S1 .f32) (n : Fin 50000) (q : Fin 3) : radius r (ix2 n q) = abv (r (ix1 0)) := by
  unfold radius
  rw [broadcastInDim_apply _ bcast_S1x1_S50000x3_0_1 _ _ (ix2 0 0) (fun a => match a with | ⟨0, _⟩ => rfl | ⟨1, _⟩ => rfl),
    broadcastInDim_apply _ bcast_S1_S1x1_1 _ _ (ix1 0) (fun a => match a with | ⟨0, _⟩ => rfl)]
  rfl

theorem slope_apply (P : FVec Ideal S50000x2 .f32) (w : FVec Ideal S2x3 .f32) (n : Fin 50000) (q : Fin 3) :
    Host.dotGeneral dot_S50000x2_S2x3_S50000x3_1_0_0_1_n_n none P w (ix2 n q)
      = P (ix2 n 0) * w (ix2 0 q) + P (ix2 n 1) * w (ix2 1 q) := by
  simp only [Host.dotGeneral]
  rw [Ideal.dotGeneral_apply, ← Equiv.sum_comp (contrEquiv1 dot_S50000x2_S2x3_S50000x3_1_0_0_1_n_n 2 rfl rfl).symm, Fin.sum_univ_two]
  have term : ∀ k : Fin 2,
      P (dot_S50000x2_S2x3_S50000x3_1_0_0_1_n_n.lhsIdx (ix2 n q) ((contrEquiv1 dot_S50000x2_S2x3_S50000x3_1_0_0_1_n_n 2 rfl rfl).symm k))
        * w (dot_S50000x2_S2x3_S50000x3_1_0_0_1_n_n.rhsIdx (ix2 n q) ((contrEquiv1 dot_S50000x2_S2x3_S50000x3_1_0_0_1_n_n 2 rfl rfl).symm k))
        = P (ix2 n k) * w (ix2 k q) := fun k => by
    have hk := contrEquiv1_symm_val dot_S50000x2_S2x3_S50000x3_1_0_0_1_n_n 2 rfl rfl k
    refine congrArg₂ (· * ·) (congrArg P (funext fun a => Fin.ext ?_)) (congrArg w (funext fun a => Fin.ext ?_))
    · match a with
      | ⟨0, _⟩ => exact Read.lhs_main_v59_0 _ _
      | ⟨1, _⟩ => exact (Read.lhs_main_v59_1 _ _).trans hk
    · match a with
      | ⟨0, _⟩ => exact (Read.rhs_main_v59_0 _ _).trans hk
      | ⟨1, _⟩ => exact Read.rhs_main_v59_1 _ _
  exact congrArg₂ (· + ·) (term 0) (term 1)

/-! ## Entries of the elementwise operations -/

theorem exp_at {s : Shape} (x : FVec Ideal s .f32) (i : s.Idx) : Host.exp x i = Ideal.exp (x i) := rfl

theorem neg_at {s : Shape} (x : FVec Ideal s .f32) (i : s.Idx) : Host.negf x i = -(x i) := rfl

theorem mul_at {s : Shape} (x y : FVec Ideal s .f32) (i : s.Idx) : mulf x y i = x i * y i := rfl

theorem add_at {s : Shape} (x y : FVec Ideal s .f32) (i : s.Idx) : addf x y i = x i + y i := rfl

theorem sub_at {s : Shape} (x y : FVec Ideal s .f32) (i : s.Idx) : subf x y i = x i - y i := rfl

theorem div_at {s : Shape} (x y : FVec Ideal s .f32) (i : s.Idx) : Host.divf x y i = Ideal.div (x i) (y i) := rfl

/-! ## Entries of the four functions -/

section

variable (P : FVec Ideal S50000x2 .f32) (n : Fin 50000) (v : EReal) (h0 : P (ix2 n 0) = v) (h1 : P (ix2 n 1) = v) (q : Fin 3)

include h0 h1

theorem dists_apply (c : FVec Ideal S3x2 .f32) : dists P c (ix2 n q) = dist v (c (ix2 q 0)) (c (ix2 q 1)) := by
  unfold dists
  rw [pairSum_apply]
  have e : ∀ i, Host.absf (gaps P c) (ix3 n q i) = abv (P (ix2 n i) - c (ix2 q i)) := fun i => congrArg abv (gaps_apply P c n q i)
  rw [e, e, h0, h1]
  rfl

theorem triA_apply (t : FVec Ideal S3 .f32) : triA P t (ix2 n q) = tri v (t (ix1 q)) := by
  show max (deaths P (ix2 n q) - abv (births P (ix2 n q) - rows t (ix2 n q))) (all 0x00000000#32 (ix2 n q)) = _
  rw [deaths_apply, births_apply, rows_apply, all_apply, word_zero, h0, h1]
  rfl

theorem gauA_apply (mu : FVec Ideal S3x2 .f32) : gauA P mu (ix2 n q) = gau v (mu (ix2 q 0)) (mu (ix2 q 1)) := by
  have sq : ∀ i, mulf (gaps P mu) (gaps P mu) (ix3 n q i) = (v - mu (ix2 q i)) * (v - mu (ix2 q i)) := fun i => by
    have e : gaps P mu (ix3 n q i) = v - mu (ix2 q i) := (gaps_apply P mu n q i).trans (congrArg (· - mu (ix2 q i)) (match i with | 0 => h0 | 1 => h1))
    exact congrArg₂ (· * ·) e e
  have s := (pairSum_apply (mulf (gaps P mu) (gaps P mu)) n q).trans (congrArg₂ (· + ·) (sq 0) (sq 1))
  unfold gauA gau
  rw [exp_at, mul_at, neg_at, s, all_apply, word_fifty]

theorem linA_apply (w : FVec Ideal S2x3 .f32) (b : FVec Ideal S3 .f32) :
    linA P w b (ix2 n q) = lin v (w (ix2 0 q)) (w (ix2 1 q)) (b (ix1 q)) := by
  have e := congrArg₂ (· + ·) (slope_apply P w n q) (rows_apply b n q)
  rw [h0, h1] at e
  exact e

theorem ratA_apply (cp : FVec Ideal S3x2 .f32) (r : FVec Ideal S1 .f32) :
    ratA P cp r (ix2 n q) = rat v (cp (ix2 q 0)) (cp (ix2 q 1)) (r (ix1 0)) := by
  have one : all 0x3F800000#32 (ix2 n q) = 1 := (all_apply 0x3F800000#32 n q).trans word_one
  have d := dists_apply P n v h0 h1 q cp
  have g : Host.absf (subf (radius r) (dists P cp)) (ix2 n q) = abv (abv (r (ix1 0)) - dist v (cp (ix2 q 0)) (cp (ix2 q 1))) :=
    congrArg abv (congrArg₂ (· - ·) (radius_apply r n q) d)
  unfold ratA rat
  rw [sub_at, div_at, div_at, add_at, add_at, one, d, g]

/-- At a row whose pair is `(v, v)`, entry `3p + q` of the twelve is function `p` with its `q`-th parameters at `v`. -/
theorem coords_apply (t : FVec Ideal S3 .f32) (mu : FVec Ideal S3x2 .f32) (w : FVec Ideal S2x3 .f32) (b : FVec Ideal S3 .f32)
    (cp : FVec Ideal S3x2 .f32) (r : FVec Ideal S1 .f32) (p : Fin 4) :
    coords P t mu w b cp r (ix2 n ⟨3 * p.val + q.val, by omega⟩)
      = column (fun q => t (ix1 q)) (fun q i => mu (ix2 q i)) (fun i q => w (ix2 i q)) (fun q => b (ix1 q)) (fun q i => cp (ix2 q i))
          (r (ix1 0)) p q v := by
  have piece : ∀ (u : FVec Ideal S50000x3 .f32) (k : Nat) (hk : k < 4)
      (_ : [(⟨S50000x3, triA P t⟩ : (s : Shape) × (s.Idx → EReal)), ⟨S50000x3, gauA P mu⟩, ⟨S50000x3, linA P w b⟩, ⟨S50000x3, ratA P cp r⟩][k]
        = ⟨S50000x3, u⟩)
      (_ : ((([(⟨S50000x3, triA P t⟩ : (s : Shape) × (s.Idx → EReal)), ⟨S50000x3, gauA P mu⟩, ⟨S50000x3, linA P w b⟩,
          ⟨S50000x3, ratA P cp r⟩].take k).map (·.1)).map
          fun s => if h : s.rank = S50000x12.rank then s.size ((1 : Fin S50000x12.rank).cast h.symm) else 0).sum = 3 * k)
      (l : Fin 12) (_ : l.val = 3 * k + q.val), coords P t mu w b cp r (ix2 n l) = u (ix2 n q) := fun u k hk hu hs l hl =>
    concatenate_apply_piece (t := S50000x12) 1
      [⟨S50000x3, triA P t⟩, ⟨S50000x3, gauA P mu⟩, ⟨S50000x3, linA P w b⟩, ⟨S50000x3, ratA P cp r⟩] concatenates_S50000x3_S50000x3_S50000x3_S50000x3_S50000x12_d1 (ix2 n l) k hk S50000x3 u hu
      rfl (3 * k) hs (ix2 n q) (fun a ha => match a, ha with | ⟨0, _⟩, _ => rfl | ⟨1, _⟩, ha => absurd rfl ha) hl.symm
  match p with
  | 0 => exact (piece _ 0 (by decide) rfl rfl _ rfl).trans (triA_apply P n v h0 h1 q t)
  | 1 => exact (piece _ 1 (by decide) rfl rfl _ rfl).trans (gauA_apply P n v h0 h1 q mu)
  | 2 => exact (piece _ 2 (by decide) rfl rfl _ rfl).trans (linA_apply P n v h0 h1 q w b)
  | 3 => exact (piece _ 3 (by decide) rfl rfl _ rfl).trans (ratA_apply P n v h0 h1 q cp r)

end

end Cert.Filt.Ref

end
-- ==== Proof.RefScores.lean ====
/- What the reference computes: the scores, the pairs made of them, and the 96 activations of a row. -/
module

public import proofs.«01_k».proof.Proof.RefColumns
public import proofs.«01_k».proof.Proof.Block

@[expose] public section

noncomputable section

namespace Cert.Filt.Ref

open Idealize.ShloMosaic Idealize.ShloMosaic.ValueIdx Cert.ReferenceIdeal Cert.ReferenceIdeal.Gen Cert.ReferenceIdeal.Read

/-! ## The scores -/

/-- Score `f` of row `n` is the two-layer network at row `n` with column `f` of its second layer. -/
theorem score_apply (x : FVec Ideal S50000x128 .f32) (W1 : FVec Ideal S128x128 .f32) (b1 : FVec Ideal S128 .f32)
    (W2 : FVec Ideal S128x8 .f32) (b2 : FVec Ideal S8 .f32) (n : Fin 50000) (f : Fin 8) :
    val_main_v9 (F := Ideal) x W1 b1 W2 b2 (ix2 n f)
      = scoreK (fun d => x (ix2 n d)) (fun d h => W1 (ix2 d h)) (fun h => b1 (ix1 h)) (fun h => W2 (ix2 h f)) (b2 (ix1 f)) := by
  have hid : ∀ h : Fin 128, val_main_v5 (F := Ideal) x W1 b1 (ix2 n h)
      = max ((∑ d, x (ix2 n d) * W1 (ix2 d h)) + b1 (ix1 h)) 0 := fun h => by
    rw [val_main_v5_apply, val_main_v3_apply, val_main_v0_apply, val_main_v2_apply, val_main_v1_apply, val_main_v4_apply]
    refine congrArg₂ max (congrArg₂ (· + ·) (Finset.sum_congr rfl fun d _ => ?_) (congrArg b1 (eq_ix1 _))) word_zero
    exact congrArg₂ (· * ·) (congrArg x (eq_ix2 _)) (congrArg W1 (eq_ix2 _))
  rw [val_main_v9_apply, val_main_v6_apply, val_main_v8_apply, val_main_v7_apply]
  refine congrArg₂ (· + ·) (Finset.sum_congr rfl fun h _ => ?_) (congrArg b2 (eq_ix1 _))
  exact congrArg₂ (· * ·) ((congrArg (val_main_v5 (F := Ideal) x W1 b1) (eq_ix2 _)).trans (hid h)) (congrArg W2 (eq_ix2 _))

/-- The scores as pairs: both entries of pair `n` of filtration `f` are score `f` of row `n`. -/
theorem persistence_apply (x : FVec Ideal S50000x128 .f32) (W1 : FVec Ideal S128x128 .f32) (b1 : FVec Ideal S128 .f32)
    (W2 : FVec Ideal S128x8 .f32) (b2 : FVec Ideal S8 .f32) (f : Fin 8) (n : Fin 50000) (i : Fin 2) :
    val_main_v31 (F := Ideal) x W1 b1 W2 b2 (ix3 f n i) = val_main_v9 (F := Ideal) x W1 b1 W2 b2 (ix2 n f) := by
  rw [val_main_v31_apply, val_main_v30_apply, val_main_v29_apply]
  exact congrArg (val_main_v9 (F := Ideal) x W1 b1 W2 b2) (eq_ix2 _)

/-! ## One filtration's pairs -/

/-- Each filtration's slice lies inside the array. -/
theorem slices_all (f : Fin 8) : S8x50000x2.Slices ![f.val, 0, 0] S1x50000x2 := by
  revert f; decide

/-- The pairs of filtration `f`. -/
def pairs (X : FVec Ideal S8x50000x2 .f32) (f : Fin 8) : FVec Ideal S50000x2 .f32 :=
  shapeCast S50000x2 (extractStridedSlice S1x50000x2 ![f.val, 0, 0] X (slices_all f)) shapeCasts_S1x50000x2_S50000x2

theorem pairs_apply (X : FVec Ideal S8x50000x2 .f32) (f : Fin 8) (n : Fin 50000) (i : Fin 2) :
    pairs X f (ix2 n i) = X (ix3 f n i) := by
  unfold pairs
  rw [shapeCast_apply _ shapeCasts_S1x50000x2_S50000x2 _ (ix3 0 n i)
      (by rw [Shape.rowMajor_val_three, Shape.rowMajor_val_two]
          show (0 * 50000 + n.val) * 2 + i.val = n.val * 2 + i.val
          omega),
    extractStridedSlice_apply _ X (slices_all f) _ (ix3 f n i)
      (fun a => match a with | ⟨0, _⟩ => rfl | ⟨1, _⟩ => (Nat.zero_add _).symm | ⟨2, _⟩ => (Nat.zero_add _).symm)]

/-! ## The 96 activations -/

/-- Eight blocks of twelve side by side. -/
def joined (B : Fin 8 → FVec Ideal S50000x12 .f32) : FVec Ideal S50000x96 .f32 :=
  concatenate S50000x96 1 [⟨S50000x12, B 0⟩, ⟨S50000x12, B 1⟩, ⟨S50000x12, B 2⟩, ⟨S50000x12, B 3⟩, ⟨S50000x12, B 4⟩, ⟨S50000x12, B 5⟩,
    ⟨S50000x12, B 6⟩, ⟨S50000x12, B 7⟩]
    concatenates_S50000x12_S50000x12_S50000x12_S50000x12_S50000x12_S50000x12_S50000x12_S50000x12_S50000x96_d1

/-- Entry `12f + c` of a row is entry `c` of block `f`. -/
theorem joined_apply (B : Fin 8 → FVec Ideal S50000x12 .f32) (n : Fin 50000) (f : Fin 8) (c : Fin 12) (k : Fin 96)
    (hk : k.val = 12 * f.val + c.val) : joined B (ix2 n k) = B f (ix2 n c) := by
  have hf := f.isLt
  have hc := c.isLt
  exact concatenate_ofFn_apply (t := S50000x96) (s₁ := S50000x12) 1 B
    concatenates_S50000x12_S50000x12_S50000x12_S50000x12_S50000x12_S50000x12_S50000x12_S50000x12_S50000x96_d1 rfl 12 rfl (ix2 n k) f
    (by show k.val / 12 = f.val; omega) (ix2 n c) (by show c.val = k.val % 12; omega)
    (fun a ha => match a, ha with | ⟨0, _⟩, _ => rfl | ⟨1, _⟩, ha => absurd rfl ha)

/-- The reference's activations are the coordinate functions of each filtration's pairs, side by side. -/
theorem acts_eq (x : FVec Ideal S50000x128 .f32) (W1 : FVec Ideal S128x128 .f32) (b1 : FVec Ideal S128 .f32)
    (W2 : FVec Ideal S128x8 .f32) (b2 : FVec Ideal S8 .f32) (t : FVec Ideal S3 .f32) (mu : FVec Ideal S3x2 .f32) (w : FVec Ideal S2x3 .f32)
    (b : FVec Ideal S3 .f32) (cp : FVec Ideal S3x2 .f32) (r : FVec Ideal S1 .f32) :
    val_main_v456 (F := Ideal) x W1 b1 W2 b2 t mu w b cp r
      = joined fun f => coords (pairs (val_main_v31 (F := Ideal) x W1 b1 W2 b2) f) t mu w b cp r := rfl

/-- Activation `12f + 3p + q` of row `n` is function `p` with its `q`-th parameters at score `f` of the row. -/
theorem acts_apply (x : FVec Ideal S50000x128 .f32) (W1 : FVec Ideal S128x128 .f32) (b1 : FVec Ideal S128 .f32)
    (W2 : FVec Ideal S128x8 .f32) (b2 : FVec Ideal S8 .f32) (t : FVec Ideal S3 .f32) (mu : FVec Ideal S3x2 .f32) (w : FVec Ideal S2x3 .f32)
    (b : FVec Ideal S3 .f32) (cp : FVec Ideal S3x2 .f32) (r : FVec Ideal S1 .f32)
    (n : Fin 50000) (f : Fin 8) (p : Fin 4) (q : Fin 3) (k : Fin 96) (hk : k.val = 12 * f.val + (3 * p.val + q.val)) :
    val_main_v456 (F := Ideal) x W1 b1 W2 b2 t mu w b cp r (ix2 n k)
      = column (fun q => t (ix1 q)) (fun q i => mu (ix2 q i)) (fun i q => w (ix2 i q)) (fun q => b (ix1 q)) (fun q i => cp (ix2 q i))
          (r (ix1 0)) p q
          (scoreK (fun d => x (ix2 n d)) (fun d h => W1 (ix2 d h)) (fun h => b1 (ix1 h)) (fun h => W2 (ix2 h f)) (b2 (ix1 f))) := by
  have pair : ∀ i, pairs (val_main_v31 (F := Ideal) x W1 b1 W2 b2) f (ix2 n i) = _ := fun i =>
    (pairs_apply _ f n i).trans ((persistence_apply x W1 b1 W2 b2 f n i).trans (score_apply x W1 b1 W2 b2 n f))
  rw [acts_eq, joined_apply _ n f ⟨3 * p.val + q.val, by omega⟩ k hk]
  exact coords_apply _ n _ (pair 0) (pair 1) q t mu w b cp r p

end Cert.Filt.Ref

end
-- ==== Proof.Equation.lean ====
/- The equation: at a row whose scores are real, what the kernel leaves there is what the reference computes there. -/
module

public import proofs.«01_k».proof.Proof.Array
public import proofs.«01_k».proof.Proof.RefScores

@[expose] public section

noncomputable section

namespace Cert.Filt

open Idealize.ShloMosaic hiding ix1 ix2 ix3 eq_ix1 eq_ix2 eq_ix3
open Idealize.ShloMosaic.ValueIdx Cert.ReferenceIdeal Cert.ReferenceIdeal.Gen Cert.ReferenceIdeal.Read

/-! ## Real values -/

/-- The value is a real number. -/
def IsReal (e : EReal) : Prop := ∃ v : ℝ, e = (v : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.relu {a : EReal} (ha : IsReal a) : IsReal (max a 0) := by
  rcases max_choice a 0 with h | h
  · rw [h]; exact ha
  · rw [h]; exact ⟨0, rfl⟩

theorem IsReal.sum {n : ℕ} {f : Fin n → EReal} (h : ∀ i, IsReal (f i)) : IsReal (∑ i, f i) := by
  choose g hg using h
  refine ⟨∑ i, g i, (Finset.sum_congr rfl fun i _ => hg i).trans ?_⟩
  exact (map_sum (⟨⟨Real.toEReal, EReal.coe_zero⟩, EReal.coe_add⟩ : ℝ →+ EReal) g Finset.univ).symm

/-- The score of real inputs is real. -/
theorem scoreK_real {x : Fin 128 → EReal} {W1 : Fin 128 → Fin 128 → EReal} {b1 w : Fin 128 → EReal} {b : EReal}
    (hx : ∀ d, IsReal (x d)) (hW1 : ∀ d h, IsReal (W1 d h)) (hb1 : ∀ h, IsReal (b1 h)) (hw : ∀ h, IsReal (w h)) (hb : IsReal b) :
    IsReal (scoreK x W1 b1 w b) :=
  (IsReal.sum fun h => ((IsReal.sum fun d => (hx d).mul (hW1 d h)).add (hb1 h)).relu.mul (hw h)).add hb

section

variable (x : FVec Ideal S50000x128 .f32) (W1 : FVec Ideal S128x128 .f32) (b1 : FVec Ideal S128 .f32)
  (W2 : FVec Ideal S128x8 .f32) (b2 : FVec Ideal S8 .f32) (t : FVec Ideal S3 .f32) (mu : FVec Ideal S3x2 .f32) (w : FVec Ideal S2x3 .f32)
  (b : FVec Ideal S3 .f32) (cp : FVec Ideal S3x2 .f32) (r : FVec Ideal S1 .f32) (oW : FVec Ideal S224x128 .f32) (ob : FVec Ideal S128 .f32)

/-! ## The reference's result -/

/-- The reference's row before the output layer: the features, then the activations. -/
theorem features_apply (n : Fin 50000) (d : Fin 128) :
    val_main_v457 (F := Ideal) x W1 b1 W2 b2 t mu w b cp r (ix2 n ⟨d.val, by omega⟩) = x (ix2 n d) := by
  unfold val_main_v457
  exact concatenate_apply_piece (t := S50000x224) 1
    [⟨S50000x128, x⟩, ⟨S50000x96, val_main_v456 (F := Ideal) x W1 b1 W2 b2 t mu w b cp r⟩]
    concatenates_S50000x128_S50000x96_S50000x224_d1 (ix2 n ⟨d.val, by omega⟩) 0 (Nat.zero_lt_succ 1) S50000x128 _ rfl rfl 0 rfl (ix2 n d)
    (fun a ha => match a, ha with | ⟨0, _⟩, _ => rfl | ⟨1, _⟩, ha => absurd rfl ha) (Nat.zero_add _)

theorem activations_apply (n : Fin 50000) (k : Fin 96) :
    val_main_v457 (F := Ideal) x W1 b1 W2 b2 t mu w b cp r (ix2 n ⟨128 + k.val, by omega⟩)
      = val_main_v456 (F := Ideal) x W1 b1 W2 b2 t mu w b cp r (ix2 n k) := by
  unfold val_main_v457
  exact concatenate_apply_piece (t := S50000x224) 1
    [⟨S50000x128, x⟩, ⟨S50000x96, val_main_v456 (F := Ideal) x W1 b1 W2 b2 t mu w b cp r⟩]
    concatenates_S50000x128_S50000x96_S50000x224_d1 (ix2 n ⟨128 + k.val, by omega⟩) 1 (Nat.lt_succ_self 1) S50000x96 _ rfl rfl 128 rfl (ix2 n k)
    (fun a ha => match a, ha with | ⟨0, _⟩, _ => rfl | ⟨1, _⟩, ha => absurd rfl ha) rfl

/-- The reference's result at row `n`, column `o`: the output layer on the features and on the 96 activations. -/
theorem ref_apply (n : Fin 50000) (o : Fin 128) :
    val_main_v462 (F := Ideal) x W1 b1 W2 b2 t mu w b cp r oW ob (ix2 n o)
      = max (((∑ d : Fin 128, x (ix2 n d) * oW (ix2 ⟨d.val, by omega⟩ o))
          + ∑ k : Fin 96, val_main_v456 (F := Ideal) x W1 b1 W2 b2 t mu w b cp r (ix2 n k) * oW (ix2 ⟨128 + k.val, by omega⟩ o))
          + ob (ix1 o)) 0 := by
  rw [val_main_v462_apply, val_main_v461_apply, val_main_v458_apply, val_main_v460_apply, val_main_v459_apply, val_main_call8_v0_apply]
  refine congrArg₂ max (congrArg₂ (· + ·) ?_ (congrArg ob (eq_ix1 _))) word_zero
  refine (Fin.sum_univ_add (a := 128) (b := 96) _).trans
    (congrArg₂ (· + ·) (Finset.sum_congr rfl fun d _ => ?_) (Finset.sum_congr rfl fun k _ => ?_))
  · exact congrArg₂ (· * ·)
      ((congrArg (val_main_v457 (F := Ideal) x W1 b1 W2 b2 t mu w b cp r) (eq_ix2 _)).trans (features_apply x W1 b1 W2 b2 t mu w b cp r n d))
      (congrArg oW (eq_ix2 _))
  · exact congrArg₂ (· * ·)
      ((congrArg (val_main_v457 (F := Ideal) x W1 b1 W2 b2 t mu w b cp r) (eq_ix2 _)).trans (activations_apply x W1 b1 W2 b2 t mu w b cp r n k))
      (congrArg oW (eq_ix2 _))

/-! ## The two sides -/

/-- Every lane below 96 is filtration `f`'s function `p` with its `q`-th parameters, for some `f`, `p` and `q`. -/
theorem lane_split (k : Fin 96) : ∃ (f : Fin 8) (p : Fin 4) (q : Fin 3), k.val = 12 * f.val + (3 * p.val + q.val) :=
  ⟨⟨k.val / 12, by omega⟩, ⟨k.val % 12 / 3, by omega⟩, ⟨k.val % 3, by omega⟩, by
    show k.val = 12 * (k.val / 12) + (3 * (k.val % 12 / 3) + k.val % 3)
    omega⟩

/-- The kernel's result at a row and a column is the reference's. -/
theorem out_eq (hx : ∀ n d, IsReal (x (ix2 n d))) (hW1 : ∀ d h, IsReal (W1 (ix2 d h))) (hb1 : ∀ h, IsReal (b1 (ix1 h)))
    (hW2 : ∀ h f, IsReal (W2 (ix2 h f))) (hb2 : ∀ f, IsReal (b2 (ix1 f))) (hw : ∀ i q, IsReal (w (ix2 i q))) (hr : IsReal (r (ix1 0)))
    (n : Fin 50000) (o : Fin 128) :
    outK (fun d => x (ix2 n d)) W1 (asRow b1) (w2R W2) (b2R b2) (top128 oW) (last96 oW) (asRow ob) (stack (params t mu w b cp r)) o
      = val_main_v462 (F := Ideal) x W1 b1 W2 b2 t mu w b cp r oW ob (ix2 n o) := by
  rw [ref_apply]
  unfold outK
  refine congrArg₂ max (congrArg₂ (· + ·) (congrArg₂ (· + ·) (Finset.sum_congr rfl fun d _ => congrArg (x (ix2 n d) * ·) (top128_apply oW d o)) ?_)
    (asRow_apply ob o)) rfl
  refine (Fin.sum_univ_add (a := 96) (b := 32) _).trans ?_
  refine (congrArg₂ (· + ·) (Finset.sum_congr rfl fun k _ => ?_) (Finset.sum_eq_zero fun j _ => ?_)).trans (add_zero _)
  · obtain ⟨f, p, q, hk⟩ := lane_split k
    refine congrArg₂ (· * ·) ?_ (last96_apply oW (Fin.castAdd 32 k) o k.isLt)
    have hs : scoreK (fun d => x (ix2 n d)) (fun d h => W1 (ix2 d h)) (fun h => asRow b1 (ix2 0 h))
          (fun h => w2R W2 (ix2 h (Fin.castAdd 32 k))) (b2R b2 (ix2 0 (Fin.castAdd 32 k)))
        = scoreK (fun d => x (ix2 n d)) (fun d h => W1 (ix2 d h)) (fun h => b1 (ix1 h)) (fun h => W2 (ix2 h f)) (b2 (ix1 f)) := by
      rw [b2R_apply b2 f ⟨3 * p.val + q.val, by omega⟩ (Fin.castAdd 32 k) hk]
      congr 1
      · exact funext fun h => asRow_apply b1 h
      · exact funext fun h => w2R_apply W2 h f ⟨3 * p.val + q.val, by omega⟩ (Fin.castAdd 32 k) hk
    rw [hs, Ref.acts_apply x W1 b1 W2 b2 t mu w b cp r n f p q k hk]
    obtain ⟨v, hv⟩ := scoreK_real (hx n) hW1 hb1 (fun h => hW2 h f) (hb2 f)
    rw [hv]
    exact act_lane t mu w b cp r v hw hr f p q (Fin.castAdd 32 k) hk
  · refine (congrArg (_ * ·) (last96_pad oW (Fin.natAdd 96 j) o (Nat.le_add_right 96 j.val))).trans (mul_zero _)

end

end Cert.Filt

end
-- ==== Proof.Finite.lean ====
/- What the precondition says: every entry of the seven arrays it speaks of is a real number. -/
module

public import proofs.«01_k».proof.Defs
public import proofs.«01_k».proof.Proof.Equation
public import Idealize.ShloMosaic.Lib.ReduceAll

@[expose] public section

noncomputable section

namespace Cert.Filt

open Idealize.ShloMosaic Cert.Pre_finite_inputs

/-- The shape relations the predicate's operations take. -/
theorem preFacts : Cert.Pre_finite_inputs.Facts where
  bcast_S_S50000x128 := by decide
  reducesTo_S50000x128_S_d0_1 := by decide
  h_S_ := by decide
  bcast_S_S128x128 := by decide
  reducesTo_S128x128_S_d0_1 := by decide
  bcast_S_S128 := by decide
  reducesTo_S128_S_d0 := by decide
  bcast_S_S128x8 := by decide
  reducesTo_S128x8_S_d0_1 := by decide
  bcast_S_S8 := by decide
  reducesTo_S8_S_d0 := by decide
  bcast_S_S2x3 := by decide
  reducesTo_S2x3_S_d0_1 := by decide
  bcast_S_S1 := by decide
  reducesTo_S1_S_d0 := by decide

/-- A value whose absolute value lies below infinity is a real number. -/
theorem real_of_lt {e : EReal} (h : max e (-e) < ⊤) : IsReal e := by
  induction e using EReal.rec with
  | bot => simp at h
  | coe v => exact ⟨v, rfl⟩
  | top => simp at h

instance : Subsingleton S_.Idx := ⟨fun _ _ => funext fun a => a.elim0⟩

/-- The test that every entry of an array lies below infinity, passed: every entry is a real number. -/
theorem real_of_all {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant (F := Ideal) S_ .f32 0x7F800000#32)))
      (constantI S_ 1 1#1) hr h0 j = 1#1) (i : s.Idx) : IsReal (x i) := by
  have h : BitVec.ofBool (decide (max (x i) (-(x i)) < Ideal.ofBits .f32 0x7F800000#32)) = 1#1 := Host.reduce_andi_all _ _ hr h0 j e i
  rw [word_top] at h
  refine real_of_lt ?_
  by_contra hn
  rw [decide_eq_false hn] at h
  exact absurd h (by decide)

/-- The precondition, read: the entries of the rows, of the filtration network's weights and biases, and of the line and
    rational-hat parameters are real numbers. -/
theorem real_inputs [Cert.Pre_finite_inputs.Facts] (a0 : FVec Ideal S50000x128 .f32) (a1 : IVec S2x800000 32) (a2 : IVec S17 32)
    (a3 : FVec Ideal S128x128 .f32) (a4 : FVec Ideal S128 .f32) (a5 : FVec Ideal S128x8 .f32) (a6 : FVec Ideal S8 .f32)
    (a7 : FVec Ideal S3 .f32) (a8 : FVec Ideal S3x2 .f32) (a9 : FVec Ideal S2x3 .f32) (a10 : FVec Ideal S3 .f32)
    (a11 : FVec Ideal S3x2 .f32) (a12 : FVec Ideal S1 .f32) (a13 : FVec Ideal S224x128 .f32) (a14 : FVec Ideal S128 .f32)
    (h : fn (F := Ideal) a0 a1 a2 a3 a4 a5 a6 a7 a8 a9 a10 a11 a12 a13 a14 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a9 i)) ∧ (∀ i, IsReal (a12 i)) := by
  have j : S_.Idx := fun a => a.elim0
  have e := congrFun h j
  obtain ⟨e, e12⟩ := IntOp.andi_eq_one.1 e
  obtain ⟨e, e9⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨real_of_all a0 _ _ _ j e0, real_of_all a3 _ _ _ j e3, real_of_all a4 _ _ _ j e4, real_of_all a5 _ _ _ j e5,
    real_of_all a6 _ _ _ j e6, real_of_all a9 _ _ _ j e9, real_of_all a12 _ _ _ j e12⟩

end Cert.Filt
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Reads
public import proofs.«01_k».proof.Proof.Array
public import proofs.«01_k».proof.Proof.Equation
public import proofs.«01_k».proof.Proof.Finite
public import Idealize.ShloMosaic.Lib.Quiescent

@[expose] public section

noncomputable section

namespace Cert.Proof

open Idealize.ShloMosaic hiding ix1 ix2 ix3 eq_ix1 eq_ix2 eq_ix3
open Idealize.ShloMosaic.TcCoe Idealize.ShloMosaic.ValueIdx Idealize.SL.Sem Cert.Filt

/-- The reference's result over the arrays of its launch memory. -/
abbrev refVal (m' : (ℓ : Loc ReferenceIdeal.nD ReferenceIdeal.τ ReferenceIdeal.sig) → Buf (Elt Ideal) ℓ) (c : Dev ReferenceIdeal.nD) :=
  ReferenceIdeal.Read.val_main_v462 (F := Ideal) (m' (c, ReferenceIdeal.main_arg0)) (m' (c, ReferenceIdeal.main_arg3))
    (m' (c, ReferenceIdeal.main_arg4)) (m' (c, ReferenceIdeal.main_arg5)) (m' (c, ReferenceIdeal.main_arg6))
    (m' (c, ReferenceIdeal.main_arg7)) (m' (c, ReferenceIdeal.main_arg8)) (m' (c, ReferenceIdeal.main_arg9))
    (m' (c, ReferenceIdeal.main_arg10)) (m' (c, ReferenceIdeal.main_arg11)) (m' (c, ReferenceIdeal.main_arg12))
    (m' (c, ReferenceIdeal.main_arg13)) (m' (c, ReferenceIdeal.main_arg14))

/-- The kernel's output array, over the arrays of the launch memory. -/
theorem kernel_apply (m : (ℓ : Loc KernelIdeal.nD KernelIdeal.τ KernelIdeal.sig) → Buf (Elt Ideal) ℓ) (c : Dev KernelIdeal.nD)
    (n : Fin 50000) (o : Fin 128) :
    outArr m c (ix2 n o)
      = outK (fun d => (m (c, KernelIdeal.main_arg0) : FVec Ideal KernelIdeal.S50000x128 .f32) (ix2 n d)) (m (c, KernelIdeal.main_arg3))
          (asRow (m (c, KernelIdeal.main_arg4))) (w2R (m (c, KernelIdeal.main_arg5))) (b2R (m (c, KernelIdeal.main_arg6)))
          (top128 (m (c, KernelIdeal.main_arg13))) (last96 (m (c, KernelIdeal.main_arg13))) (asRow (m (c, KernelIdeal.main_arg14)))
          (stack (params (m (c, KernelIdeal.main_arg7)) (m (c, KernelIdeal.main_arg8)) (m (c, KernelIdeal.main_arg9))
            (m (c, KernelIdeal.main_arg10)) (m (c, KernelIdeal.main_arg11)) (m (c, KernelIdeal.main_arg12)))) o := by
  unfold outArr
  rw [KernelIdeal.Gen.V_main_arg0, KernelIdeal.Gen.V_main_arg3, V_b1, V_w2, V_b2, V_ow1, V_ow2, V_ob, V_params]

/-- The kernel's output array is the reference's, where the precondition holds and the two launch memories agree. -/
theorem outArr_eq [Cert.Pre_finite_inputs.Facts] (m : (ℓ : Loc KernelIdeal.nD KernelIdeal.τ KernelIdeal.sig) → Buf (Elt Ideal) ℓ) (c : Dev KernelIdeal.nD)
    (hpre : Cert.Pre_finite_inputs.fn (F := Ideal) (m (c, KernelIdeal.main_arg0)) (m (c, KernelIdeal.main_arg1)) (m (c, KernelIdeal.main_arg2))
      (m (c, KernelIdeal.main_arg3)) (m (c, KernelIdeal.main_arg4)) (m (c, KernelIdeal.main_arg5)) (m (c, KernelIdeal.main_arg6))
      (m (c, KernelIdeal.main_arg7)) (m (c, KernelIdeal.main_arg8)) (m (c, KernelIdeal.main_arg9)) (m (c, KernelIdeal.main_arg10))
      (m (c, KernelIdeal.main_arg11)) (m (c, KernelIdeal.main_arg12)) (m (c, KernelIdeal.main_arg13)) (m (c, KernelIdeal.main_arg14)) = fun _ => 1#1) :
    outArr m c = ReferenceIdeal.Read.val_main_v462 (F := Ideal) (m (c, KernelIdeal.main_arg0)) (m (c, KernelIdeal.main_arg3))
      (m (c, KernelIdeal.main_arg4)) (m (c, KernelIdeal.main_arg5)) (m (c, KernelIdeal.main_arg6)) (m (c, KernelIdeal.main_arg7))
      (m (c, KernelIdeal.main_arg8)) (m (c, KernelIdeal.main_arg9)) (m (c, KernelIdeal.main_arg10)) (m (c, KernelIdeal.main_arg11))
      (m (c, KernelIdeal.main_arg12)) (m (c, KernelIdeal.main_arg13)) (m (c, KernelIdeal.main_arg14)) := by
  obtain ⟨h0, h3, h4, h5, h6, h9, h12⟩ := real_inputs _ _ _ _ _ _ _ _ _ _ _ _ _ _ _ hpre
  funext i
  obtain ⟨n, o, rfl⟩ : ∃ (n : Fin 50000) (o : Fin 128), i = ix2 n o := ⟨i 0, i 1, eq_ix2 i⟩
  exact (kernel_apply m c n o).trans (out_eq _ _ _ _ _ _ _ _ _ _ _ _ _ (fun n d => h0 _) (fun d h => h3 _) (fun h => h4 _)
    (fun h f => h5 _) (fun f => h6 _) (fun i q => h9 _) (h12 _) n o)

/-- The reference's frame: what its run leaves, its arguments kept; it has no counter to leave anything but zero. -/
theorem refFrame : Cert.quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- Over the extended reals the kernel's array is the reference's. -/
theorem algebraic : Cert.algebraic_KernelIdeal_ReferenceIdeal_pre_finite_inputs (hKernelIdeal := KernelIdeal.Gen.facts)
    (hReferenceIdeal := ReferenceIdeal.Gen.facts) (hPre_finite_inputs := preFacts) := by
  intro m g m' g' hpre hag
  refine ⟨fun c => outArr m c, ?_, ?_⟩
  · exact (θ_run _ _ _).mono (fun r h c => ⟨(h c).1.trans (arr_eq m c), (h c).2⟩) (KernelIdeal.Value.run_blocks m g)
  · refine (θ_run _ _ _).mono (fun r h c => ⟨((h c).1.trans (ReferenceIdeal.Read.val_main_v462_eq _)).trans ?_, (h c).2⟩)
      (ReferenceIdeal.Value.run m' g')
    obtain ⟨g0, -, -, g3, g4, g5, g6, g7, g8, g9, g10, g11, g12, g13, g14⟩ := hag c
    refine Eq.trans ?_ (@outArr_eq preFacts m c (hpre c)).symm
    show refVal m' c = _
    unfold refVal
    exact congr (congr (congr (congr (congr (congr (congr (congr (congr (congr (congr (congr (congrArg _ g0) g3) g4) g5) g6) g7) g8) g9) g10) g11) g12) g13) g14

/-- Every claim of the certificate. -/
theorem claim : Cert.Claim :=
  ⟨Kernel.Gen.facts, KernelIdeal.Gen.facts, ReferenceIdeal.Gen.facts, preFacts, fun m g _ => Kernel.Gen.frame m g,
    fun m g _ => KernelIdeal.Gen.frame m g, fun m g _ => KernelIdeal.Gen.frame m g, refFrame, fun m g _ => refFrame m g trivial, trivial, algebraic⟩

end Cert.Proof
